-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer_inputs [hPre_layer_inputs : Cert.Pre_layer_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_layer_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_inputs [hPre_layer_inputs : Cert.Pre_layer_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_layer_inputs [hKernelIdeal : Cert.KernelIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_layer_inputs [hReferenceIdeal : Cert.ReferenceIdeal.Facts] [hPre_layer_inputs : Cert.Pre_layer_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_ln2" .f32 0xBF317218#32 ((-(Real.log 2) : ℝ) : EReal)

def algebraic_KernelIdeal_ReferenceIdeal_pre_layer_inputs [hKernelIdeal : Cert.KernelIdeal.Facts] [hReferenceIdeal : Cert.ReferenceIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_layer_inputs : Cert.Pre_layer_inputs.Facts),
    quiescent_Kernel (hKernel := hKernel)
    ∧ quiescent_KernelIdeal (hKernelIdeal := hKernelIdeal)
    ∧ quiescent_KernelIdeal_pre_layer_inputs (hKernelIdeal := hKernelIdeal) (hPre_layer_inputs := hPre_layer_inputs)
    ∧ quiescent_ReferenceIdeal (hReferenceIdeal := hReferenceIdeal)
    ∧ quiescent_ReferenceIdeal_pre_layer_inputs (hReferenceIdeal := hReferenceIdeal) (hPre_layer_inputs := hPre_layer_inputs)
    ∧ preserves_Kernel_KernelIdeal
    ∧ algebraic_KernelIdeal_ReferenceIdeal_pre_layer_inputs (hKernelIdeal := hKernelIdeal) (hReferenceIdeal := hReferenceIdeal) (hPre_layer_inputs := hPre_layer_inputs)
-- ==== Pre_layer_inputs.lean ====
abbrev S4x10000x128 : Shape := ⟨3, ![4, 10000, 128]⟩
abbrev S10000 : Shape := ⟨1, ![10000]⟩
abbrev S128x512 : Shape := ⟨2, ![128, 512]⟩
abbrev S256x10 : Shape := ⟨2, ![256, 10]⟩
abbrev S8x256 : Shape := ⟨2, ![8, 256]⟩
abbrev S256 : Shape := ⟨1, ![256]⟩
abbrev S256x128 : Shape := ⟨2, ![256, 128]⟩
abbrev S_ : Shape := ⟨0, ![]⟩
abbrev S1 : Shape := ⟨1, ![1]⟩
abbrev S9999 : Shape := ⟨1, ![9999]⟩

class Facts : Prop where
  reducesTo_S10000_S_d0 : S10000.ReducesTo [0] S_
  h_S_ : 0 < S_.numel
  slices_S10000_S1_0 : S10000.Slices ![0] S1
  shapeCasts_S1_S_ : S1.ShapeCasts S_
  slices_S10000_S9999_1 : S10000.Slices ![1] S9999
  bcast_S_S9999 : S_.BroadcastsInDim S9999 (![] : Fin 0 → Fin S9999.rank)
  reducesTo_S9999_S_d0 : S9999.ReducesTo [0] S_
  bcast_S_S256 : S_.BroadcastsInDim S256 (![] : Fin 0 → Fin S256.rank)
  reducesTo_S256_S_d0 : S256.ReducesTo [0] S_
  bcast_S_S4x10000x128 : S_.BroadcastsInDim S4x10000x128 (![] : Fin 0 → Fin S4x10000x128.rank)
  reducesTo_S4x10000x128_S_d0_1_2 : S4x10000x128.ReducesTo [0, 1, 2] S_
  bcast_S_S128x512 : S_.BroadcastsInDim S128x512 (![] : Fin 0 → Fin S128x512.rank)
  reducesTo_S128x512_S_d0_1 : S128x512.ReducesTo [0, 1] S_
  bcast_S_S256x10 : S_.BroadcastsInDim S256x10 (![] : Fin 0 → Fin S256x10.rank)
  reducesTo_S256x10_S_d0_1 : S256x10.ReducesTo [0, 1] S_
  bcast_S_S8x256 : S_.BroadcastsInDim S8x256 (![] : Fin 0 → Fin S8x256.rank)
  reducesTo_S8x256_S_d0_1 : S8x256.ReducesTo [0, 1] S_

variable [Facts]

def fn_where {F : FTy → Type} [FloatOps F] (arg0 : IVec S9999 1) (arg1 : IVec S9999 32) (arg2 : IVec S9999 32) : IVec S9999 32 :=
  let v0 : IVec S9999 32 := select arg0 arg1 arg2
  v0

def fn_floor_divide {F : FTy → Type} [FloatOps F] (arg0 : IVec S9999 32) (arg1 : IVec S_ 32) : IVec S9999 32 :=
  let v0 : IVec S_ 32 := id arg1
  let v1 : IVec S9999 32 := broadcastInDim S9999 ![] bcast_S_S9999 v0
  let v2 : IVec S9999 32 := Host.divsi arg0 v1
  let v3 : IVec S9999 32 := signi arg0
  let v4 : IVec S_ 32 := signi v0
  let v5 : IVec S9999 32 := broadcastInDim S9999 ![] bcast_S_S9999 v4
  let v6 : IVec S9999 1 := cmpi .ne v3 v5
  let v7 : IVec S9999 32 := broadcastInDim S9999 ![] bcast_S_S9999 v0
  let v8 : IVec S9999 32 := Host.remsi arg0 v7
  let c : IVec S_ 32 := constantI S_ 32 0#32
  let v9 : IVec S9999 32 := broadcastInDim S9999 ![] bcast_S_S9999 c
  let v10 : IVec S9999 1 := cmpi .ne v8 v9
  let v11 : IVec S9999 1 := andi v6 v10
  let c_0 : IVec S_ 32 := constantI S_ 32 1#32
  let v12 : IVec S9999 32 := broadcastInDim S9999 ![] bcast_S_S9999 c_0
  let v13 : IVec S9999 32 := subi v2 v12
  let v14 : IVec S9999 32 := fn_where (F := F) v11 v13 v2
  v14

def fn_part3 {F : FTy → Type} [FloatOps F] (main_arg6 : FVec F S256 .f32) (main_v50 : IVec S_ 1) : IVec S_ 1 :=
  let main_v51 : FVec F S256 .f32 := Host.absf main_arg6
  let main_cst_19 : FVec F S_ .f32 := constant S_ .f32 0x7F800000#32
  let main_v52 : FVec F S256 .f32 := broadcastInDim S256 ![] bcast_S_S256 main_cst_19
  let main_v53 : IVec S256 1 := cmpf .olt main_v51 main_v52
  let main_c_20 : IVec S_ 1 := constantI S_ 1 1#1
  let main_v54 : IVec S_ 1 := (fun x v => Host.reduce IntOp.andi x v reducesTo_S256_S_d0 h_S_) main_v53 main_c_20
  let main_v55 : IVec S_ 1 := andi main_v50 main_v54
  main_v55

def fn_part2 {F : FTy → Type} [FloatOps F] (main_arg3 : FVec F S128x512 .f32) (main_arg4 : FVec F S256x10 .f32) (main_arg5 : FVec F S8x256 .f32) (main_arg6 : FVec F S256 .f32) (main_v30 : IVec S_ 1) (main_v33 : IVec S4x10000x128 1) : IVec S_ 1 :=
  let main_c_12 : IVec S_ 1 := constantI S_ 1 1#1
  let main_v34 : IVec S_ 1 := (fun x v => Host.reduce IntOp.andi x v reducesTo_S4x10000x128_S_d0_1_2 h_S_) main_v33 main_c_12
  let main_v35 : IVec S_ 1 := andi main_v30 main_v34
  let main_v36 : FVec F S128x512 .f32 := Host.absf main_arg3
  let main_cst_13 : FVec F S_ .f32 := constant S_ .f32 0x7F800000#32
  let main_v37 : FVec F S128x512 .f32 := broadcastInDim S128x512 ![] bcast_S_S128x512 main_cst_13
  let main_v38 : IVec S128x512 1 := cmpf .olt main_v36 main_v37
  let main_c_14 : IVec S_ 1 := constantI S_ 1 1#1
  let main_v39 : IVec S_ 1 := (fun x v => Host.reduce IntOp.andi x v reducesTo_S128x512_S_d0_1 h_S_) main_v38 main_c_14
  let main_v40 : IVec S_ 1 := andi main_v35 main_v39
  let main_v41 : FVec F S256x10 .f32 := Host.absf main_arg4
  let main_cst_15 : FVec F S_ .f32 := constant S_ .f32 0x7F800000#32
  let main_v42 : FVec F S256x10 .f32 := broadcastInDim S256x10 ![] bcast_S_S256x10 main_cst_15
  let main_v43 : IVec S256x10 1 := cmpf .olt main_v41 main_v42
  let main_c_16 : IVec S_ 1 := constantI S_ 1 1#1
  let main_v44 : IVec S_ 1 := (fun x v => Host.reduce IntOp.andi x v reducesTo_S256x10_S_d0_1 h_S_) main_v43 main_c_16
  let main_v45 : IVec S_ 1 := andi main_v40 main_v44
  let main_v46 : FVec F S8x256 .f32 := Host.absf main_arg5
  let main_cst_17 : FVec F S_ .f32 := constant S_ .f32 0x7F800000#32
  let main_v47 : FVec F S8x256 .f32 := broadcastInDim S8x256 ![] bcast_S_S8x256 main_cst_17
  let main_v48 : IVec S8x256 1 := cmpf .olt main_v46 main_v47
  let main_c_18 : IVec S_ 1 := constantI S_ 1 1#1
  let main_v49 : IVec S_ 1 := (fun x v => Host.reduce IntOp.andi x v reducesTo_S8x256_S_d0_1 h_S_) main_v48 main_c_18
  let main_v50 : IVec S_ 1 := andi main_v45 main_v49
  fn_part3 (F := F) main_arg6 main_v50

def fn_part1 {F : FTy → Type} [FloatOps F] (main_arg0 : FVec F S4x10000x128 .f32) (main_arg3 : FVec F S128x512 .f32) (main_arg4 : FVec F S256x10 .f32) (main_arg5 : FVec F S8x256 .f32) (main_arg6 : FVec F S256 .f32) (main_arg8 : FVec F S256 .f32) (main_arg9 : FVec F S256 .f32) (main_arg10 : FVec F S256 .f32) (main_v14 : IVec S_ 1) (main_v16 : IVec S256 1) (main_c_4 : IVec S_ 1) : IVec S_ 1 :=
  let main_v17 : IVec S_ 1 := (fun x v => Host.reduce IntOp.andi x v reducesTo_S256_S_d0 h_S_) main_v16 main_c_4
  let main_cst_5 : FVec F S_ .f32 := constant S_ .f32 0x3F800000#32
  let main_v18 : FVec F S256 .f32 := broadcastInDim S256 ![] bcast_S_S256 main_cst_5
  let main_v19 : IVec S256 1 := cmpf .oeq main_arg8 main_v18
  let main_c_6 : IVec S_ 1 := constantI S_ 1 1#1
  let main_v20 : IVec S_ 1 := (fun x v => Host.reduce IntOp.andi x v reducesTo_S256_S_d0 h_S_) main_v19 main_c_6
  let main_v21 : IVec S_ 1 := andi main_v17 main_v20
  let main_cst_7 : FVec F S_ .f32 := constant S_ .f32 0x3F800000#32
  let main_v22 : FVec F S256 .f32 := broadcastInDim S256 ![] bcast_S_S256 main_cst_7
  let main_v23 : IVec S256 1 := cmpf .oeq main_arg9 main_v22
  let main_c_8 : IVec S_ 1 := constantI S_ 1 1#1
  let main_v24 : IVec S_ 1 := (fun x v => Host.reduce IntOp.andi x v reducesTo_S256_S_d0 h_S_) main_v23 main_c_8
  let main_v25 : IVec S_ 1 := andi main_v21 main_v24
  let main_cst_9 : FVec F S_ .f32 := constant S_ .f32 0x00000000#32
  let main_v26 : FVec F S256 .f32 := broadcastInDim S256 ![] bcast_S_S256 main_cst_9
  let main_v27 : IVec S256 1 := cmpf .oeq main_arg10 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v25 main_v28
  let main_v30 : IVec S_ 1 := andi main_v14 main_v29
  let main_v31 : FVec F S4x10000x128 .f32 := Host.absf main_arg0
  let main_cst_11 : FVec F S_ .f32 := constant S_ .f32 0x7F800000#32
  let main_v32 : FVec F S4x10000x128 .f32 := broadcastInDim S4x10000x128 ![] bcast_S_S4x10000x128 main_cst_11
  let main_v33 : IVec S4x10000x128 1 := cmpf .olt main_v31 main_v32
  fn_part2 (F := F) main_arg3 main_arg4 main_arg5 main_arg6 main_v30 main_v33

def fn {F : FTy → Type} [FloatOps F] (main_arg0 : FVec F S4x10000x128 .f32) (main_arg1 : IVec S10000 32) (main_arg2 : IVec S10000 32) (main_arg3 : FVec F S128x512 .f32) (main_arg4 : FVec F S256x10 .f32) (main_arg5 : FVec F S8x256 .f32) (main_arg6 : FVec F S256 .f32) (main_arg7 : FVec F S256 .f32) (main_arg8 : FVec F S256 .f32) (main_arg9 : FVec F S256 .f32) (main_arg10 : FVec F S256 .f32) (main_arg11 : FVec F S256x128 .f32) : IVec S_ 1 :=
  let main_v0 : IVec S10000 32 := iotaInDim S10000 32 0
  let main_v1 : IVec S10000 1 := cmpi .eq main_arg1 main_v0
  let main_c : IVec S_ 1 := constantI S_ 1 1#1
  let main_v2 : IVec S_ 1 := (fun x v => Host.reduce IntOp.andi x v reducesTo_S10000_S_d0 h_S_) main_v1 main_c
  let main_v3 : IVec S1 32 := (extractStridedSlice S1 ![0] · slices_S10000_S1_0) main_arg2
  let main_v4 : IVec S_ 32 := shapeCast S_ main_v3 shapeCasts_S1_S_
  let main_c_0 : IVec S_ 32 := constantI S_ 32 4294967295#32
  let main_v5 : IVec S_ 1 := cmpi .eq main_v4 main_c_0
  let main_v6 : IVec S_ 1 := andi main_v2 main_v5
  let main_v7 : IVec S9999 32 := (extractStridedSlice S9999 ![1] · slices_S10000_S9999_1) main_arg2
  let main_v8 : IVec S9999 32 := (extractStridedSlice S9999 ![1] · slices_S10000_S9999_1) main_v0
  let main_c_1 : IVec S_ 32 := constantI S_ 32 1#32
  let main_v9 : IVec S9999 32 := broadcastInDim S9999 ![] bcast_S_S9999 main_c_1
  let main_v10 : IVec S9999 32 := subi main_v8 main_v9
  let main_c_2 : IVec S_ 32 := constantI S_ 32 16#32
  let main_v11 : IVec S9999 32 := fn_floor_divide (F := F) main_v10 main_c_2
  let main_v12 : IVec S9999 1 := cmpi .eq main_v7 main_v11
  let main_c_3 : IVec S_ 1 := constantI S_ 1 1#1
  let main_v13 : IVec S_ 1 := (fun x v => Host.reduce IntOp.andi x v reducesTo_S9999_S_d0 h_S_) main_v12 main_c_3
  let main_v14 : IVec S_ 1 := andi main_v6 main_v13
  let main_cst : FVec F S_ .f32 := constant S_ .f32 0x00000000#32
  let main_v15 : FVec F S256 .f32 := broadcastInDim S256 ![] bcast_S_S256 main_cst
  let main_v16 : IVec S256 1 := cmpf .oeq main_arg7 main_v15
  let main_c_4 : IVec S_ 1 := constantI S_ 1 1#1
  fn_part1 (F := F) main_arg0 main_arg3 main_arg4 main_arg5 main_arg6 main_arg8 main_arg9 main_arg10 main_v14 main_v16 main_c_4
-- ==== Kernel.lean ====
abbrev S4x10000x128 : Shape := ⟨3, ![4, 10000, 128]⟩
abbrev S10000 : Shape := ⟨1, ![10000]⟩
abbrev S128x512 : Shape := ⟨2, ![128, 512]⟩
abbrev S256x10 : Shape := ⟨2, ![256, 10]⟩
abbrev S8x256 : Shape := ⟨2, ![8, 256]⟩
abbrev S256 : Shape := ⟨1, ![256]⟩
abbrev S256x128 : Shape := ⟨2, ![256, 128]⟩
abbrev S1x256 : Shape := ⟨2, ![1, 256]⟩
abbrev S1x10000x128 : Shape := ⟨3, ![1, 10000, 128]⟩
abbrev S10016x128 : Shape := ⟨2, ![10016, 128]⟩
abbrev S128x770 : Shape := ⟨2, ![128, 770]⟩
abbrev S128x256 : Shape := ⟨2, ![128, 256]⟩
abbrev S128x10 : Shape := ⟨2, ![128, 10]⟩
abbrev S128x8 : Shape := ⟨2, ![128, 8]⟩
abbrev S128x2 : Shape := ⟨2, ![128, 2]⟩
abbrev S10000x128 : Shape := ⟨2, ![10000, 128]⟩
abbrev S10002x128 : Shape := ⟨2, ![10002, 128]⟩
abbrev S4384x128 : Shape := ⟨2, ![4384, 128]⟩
abbrev S4384x770 : Shape := ⟨2, ![4384, 770]⟩
abbrev S4384x256 : Shape := ⟨2, ![4384, 256]⟩
abbrev S4384x1 : Shape := ⟨2, ![4384, 1]⟩
abbrev S16x256 : Shape := ⟨2, ![16, 256]⟩
abbrev S256x256 : Shape := ⟨2, ![256, 256]⟩
abbrev S16x1x256 : Shape := ⟨3, ![16, 1, 256]⟩
abbrev S16x16x256 : Shape := ⟨3, ![16, 16, 256]⟩
abbrev S4096x256 : Shape := ⟨2, ![4096, 256]⟩
abbrev S256x1x256 : Shape := ⟨3, ![256, 1, 256]⟩
abbrev S256x16x256 : Shape := ⟨3, ![256, 16, 256]⟩
abbrev S4384 : Shape := ⟨1, ![4384]⟩
abbrev S4369x128 : Shape := ⟨2, ![4369, 128]⟩
abbrev S1x4369x128 : Shape := ⟨3, ![1, 4369, 128]⟩
abbrev S2816x128 : Shape := ⟨2, ![2816, 128]⟩
abbrev S2816x770 : Shape := ⟨2, ![2816, 770]⟩
abbrev S2816x256 : Shape := ⟨2, ![2816, 256]⟩
abbrev S2816x1 : Shape := ⟨2, ![2816, 1]⟩
abbrev S176x256 : Shape := ⟨2, ![176, 256]⟩
abbrev S176x1x256 : Shape := ⟨3, ![176, 1, 256]⟩
abbrev S176x16x256 : Shape := ⟨3, ![176, 16, 256]⟩
abbrev S2816 : Shape := ⟨1, ![2816]⟩
abbrev S1x2816x128 : Shape := ⟨3, ![1, 2816, 128]⟩
abbrev S2815x128 : Shape := ⟨2, ![2815, 128]⟩
abbrev S1x2815x128 : Shape := ⟨3, ![1, 2815, 128]⟩

abbrev nBuf : Space → Nat
  | .hbm => 14
  | .vmem => 12
  | .smem => 0
  | _ => 0

abbrev bufTy : (tb : Table) → Fin (tcTables nBuf tb) → BufTy
  | .hbm, ⟨0, _⟩ => ⟨S4x10000x128, .f32⟩
  | .hbm, ⟨1, _⟩ => ⟨S10000, .i32⟩
  | .hbm, ⟨2, _⟩ => ⟨S10000, .i32⟩
  | .hbm, ⟨3, _⟩ => ⟨S128x512, .f32⟩
  | .hbm, ⟨4, _⟩ => ⟨S256x10, .f32⟩
  | .hbm, ⟨5, _⟩ => ⟨S8x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S1x256, .f32⟩
  | .hbm, ⟨13, _⟩ => ⟨S4x10000x128, .f32⟩
  | .local _ .vmem, ⟨0, _⟩ => ⟨S1x10000x128, .f32⟩
  | .local _ .vmem, ⟨1, _⟩ => ⟨S1x10000x128, .f32⟩
  | .local _ .vmem, ⟨2, _⟩ => ⟨S128x512, .f32⟩
  | .local _ .vmem, ⟨3, _⟩ => ⟨S256x10, .f32⟩
  | .local _ .vmem, ⟨4, _⟩ => ⟨S8x256, .f32⟩
  | .local _ .vmem, ⟨5, _⟩ => ⟨S1x256, .f32⟩
  | .local _ .vmem, ⟨6, _⟩ => ⟨S256x128, .f32⟩
  | .local _ .vmem, ⟨7, _⟩ => ⟨S1x10000x128, .f32⟩
  | .local _ .vmem, ⟨8, _⟩ => ⟨S1x10000x128, .f32⟩
  | .local _ .vmem, ⟨9, _⟩ => ⟨S10016x128, .bf16⟩
  | .local _ .vmem, ⟨10, _⟩ => ⟨S128x770, .bf16⟩
  | .local _ .vmem, ⟨11, _⟩ => ⟨S256x128, .bf16⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "neg_ln2" => some ((-(Real.log 2) : ℝ) : EReal)
  | "neg_log2e" => some ((-((Real.log 2)⁻¹) : ℝ) : EReal)
  | _ => none
-- ==== ReferenceIdeal.lean ====
abbrev S4x10000x128 : Shape := ⟨3, ![4, 10000, 128]⟩
abbrev S10000 : Shape := ⟨1, ![10000]⟩
abbrev S128x512 : Shape := ⟨2, ![128, 512]⟩
abbrev S256x10 : Shape := ⟨2, ![256, 10]⟩
abbrev S8x256 : Shape := ⟨2, ![8, 256]⟩
abbrev S256 : Shape := ⟨1, ![256]⟩
abbrev S256x128 : Shape := ⟨2, ![256, 128]⟩
abbrev S4x10000x512 : Shape := ⟨3, ![4, 10000, 512]⟩
abbrev S4x10000x256 : Shape := ⟨3, ![4, 10000, 256]⟩
abbrev S_ : Shape := ⟨0, ![]⟩
abbrev S4x10000x10 : Shape := ⟨3, ![4, 10000, 10]⟩
abbrev S4x10000x8 : Shape := ⟨3, ![4, 10000, 8]⟩
abbrev S1x1x256 : Shape := ⟨3, ![1, 1, 256]⟩
abbrev S4x10000x1 : Shape := ⟨3, ![4, 10000, 1]⟩
abbrev S4x10000 : Shape := ⟨2, ![4, 10000]⟩
abbrev S4x256x10000 : Shape := ⟨3, ![4, 256, 10000]⟩
abbrev S1x256x1 : Shape := ⟨3, ![1, 256, 1]⟩
abbrev S4x1x10000 : Shape := ⟨3, ![4, 1, 10000]⟩
abbrev S10000x1 : Shape := ⟨2, ![10000, 1]⟩
abbrev S1 : Shape := ⟨1, ![1]⟩
abbrev S1x1 : Shape := ⟨2, ![1, 1]⟩
abbrev S1x1x10000 : Shape := ⟨3, ![1, 1, 10000]⟩

abbrev nBuf : Space → Nat
  | .hbm => 345
  | .vmem => 0
  | .smem => 0
  | _ => 0

abbrev hbmTy0_0 (i : Nat) : BufTy := match i % 128 with
  | 0 => ⟨S4x10000x128, .f32⟩
  | 1 => ⟨S10000, .i32⟩
  | 2 => ⟨S10000, .i32⟩
  | 3 => ⟨S128x512, .f32⟩
  | 4 => ⟨S256x10, .f32⟩
  | 5 => ⟨S8x256, .f32⟩
  | 6 => ⟨S256, .f32⟩
  | 7 => ⟨S256, .f32⟩
  | 8 => ⟨S256, .f32⟩
  | 9 => ⟨S256, .f32⟩
  | 10 => ⟨S256, .f32⟩
  | 11 => ⟨S256x128, .f32⟩
  | 12 => ⟨S4x10000x512, .f32⟩
  | 13 => ⟨S4x10000x256, .f32⟩
  | 14 => ⟨S4x10000x256, .f32⟩
  | 15 => ⟨S4x10000x256, .f32⟩
  | 16 => ⟨S4x10000x256, .f32⟩
  | 17 => ⟨S_, .f32⟩
  | 18 => ⟨S4x10000x256, .f32⟩
  | 19 => ⟨S4x10000x256, .f32⟩
  | 20 => ⟨S_, .f32⟩
  | 21 => ⟨S4x10000x256, .f32⟩
  | 22 => ⟨S4x10000x256, .f32⟩
  | 23 => ⟨S4x10000x256, .f32⟩
  | 24 => ⟨S4x10000x10, .f32⟩
  | 25 => ⟨S4x10000x8, .f32⟩
  | 26 => ⟨S4x10000x256, .f32⟩
  | 27 => ⟨S1x1x256, .f32⟩
  | 28 => ⟨S4x10000x256, .f32⟩
  | 29 => ⟨S4x10000x256, .f32⟩
  | 30 => ⟨S_, .f32⟩
  | 31 => ⟨S4x10000x256, .f32⟩
  | 32 => ⟨S4x10000x256, .f32⟩
  | 33 => ⟨S4x10000x256, .f32⟩
  | 34 => ⟨S4x10000x256, .f32⟩
  | 35 => ⟨S4x10000x256, .i1⟩
  | 36 => ⟨S4x10000x256, .f32⟩
  | 37 => ⟨S4x10000x256, .f32⟩
  | 38 => ⟨S4x10000x256, .f32⟩
  | 39 => ⟨S4x10000x256, .f32⟩
  | 40 => ⟨S4x10000x256, .f32⟩
  | 41 => ⟨S4x10000x256, .f32⟩
  | 42 => ⟨S4x10000x256, .f32⟩
  | 43 => ⟨S4x10000x256, .f32⟩
  | 44 => ⟨S4x10000x1, .f32⟩
  | 45 => ⟨S4x10000, .f32⟩
  | 46 => ⟨S4x10000x1, .f32⟩
  | 47 => ⟨S4x10000, .f32⟩
  | 48 => ⟨S256, .f32⟩
  | 49 => ⟨S256, .f32⟩
  | 50 => ⟨S4x256x10000, .f32⟩
  | 51 => ⟨S4x256x10000, .f32⟩
  | 52 => ⟨S1x256x1, .f32⟩
  | 53 => ⟨S4x256x10000, .f32⟩
  | 54 => ⟨S4x256x10000, .f32⟩
  | 55 => ⟨S4x256x10000, .f32⟩
  | 56 => ⟨S4x1x10000, .f32⟩
  | 57 => ⟨S4x256x10000, .f32⟩
  | 58 => ⟨S4x256x10000, .f32⟩
  | 59 => ⟨S4x256x10000, .f32⟩
  | 60 => ⟨S_, .i32⟩
  | 61 => ⟨S10000, .i32⟩
  | 62 => ⟨S10000, .i1⟩
  | 63 => ⟨S_, .i32⟩
  | 64 => ⟨S10000, .i32⟩
  | 65 => ⟨S10000, .i32⟩
  | 66 => ⟨S10000, .i32⟩
  | 67 => ⟨S10000x1, .i32⟩
  | 68 => ⟨S1, .i32⟩
  | 69 => ⟨S_, .i32⟩
  | 70 => ⟨S10000x1, .i32⟩
  | 71 => ⟨S10000x1, .i1⟩
  | 72 => ⟨S1x1, .i32⟩
  | 73 => ⟨S10000x1, .i32⟩
  | 74 => ⟨S10000x1, .i1⟩
  | 75 => ⟨S10000x1, .i1⟩
  | 76 => ⟨S_, .i1⟩
  | 77 => ⟨S10000, .i1⟩
  | 78 => ⟨S4x256x10000, .f32⟩
  | 79 => ⟨S4x256x10000, .i1⟩
  | 80 => ⟨S_, .f32⟩
  | 81 => ⟨S4x256x10000, .f32⟩
  | 82 => ⟨S4x256x10000, .f32⟩
  | 83 => ⟨S_, .i32⟩
  | 84 => ⟨S10000, .i32⟩
  | 85 => ⟨S10000, .i1⟩
  | 86 => ⟨S_, .i32⟩
  | 87 => ⟨S10000, .i32⟩
  | 88 => ⟨S10000, .i32⟩
  | 89 => ⟨S10000, .i32⟩
  | 90 => ⟨S10000x1, .i32⟩
  | 91 => ⟨S1, .i32⟩
  | 92 => ⟨S_, .i32⟩
  | 93 => ⟨S10000x1, .i32⟩
  | 94 => ⟨S10000x1, .i1⟩
  | 95 => ⟨S1x1, .i32⟩
  | 96 => ⟨S10000x1, .i32⟩
  | 97 => ⟨S10000x1, .i1⟩
  | 98 => ⟨S10000x1, .i1⟩
  | 99 => ⟨S_, .i1⟩
  | 100 => ⟨S10000, .i1⟩
  | 101 => ⟨S4x256x10000, .f32⟩
  | 102 => ⟨S4x256x10000, .i1⟩
  | 103 => ⟨S_, .f32⟩
  | 104 => ⟨S4x256x10000, .f32⟩
  | 105 => ⟨S4x256x10000, .f32⟩
  | 106 => ⟨S_, .i32⟩
  | 107 => ⟨S10000, .i32⟩
  | 108 => ⟨S10000, .i32⟩
  | 109 => ⟨S_, .i32⟩
  | 110 => ⟨S10000, .i32⟩
  | 111 => ⟨S10000, .i1⟩
  | 112 => ⟨S1x1x10000, .i1⟩
  | 113 => ⟨S_, .f32⟩
  | 114 => ⟨S4x256x10000, .f32⟩
  | 115 => ⟨S_, .i32⟩
  | 116 => ⟨S10000, .i32⟩
  | 117 => ⟨S10000, .i1⟩
  | 118 => ⟨S_, .i32⟩
  | 119 => ⟨S10000, .i32⟩
  | 120 => ⟨S10000, .i32⟩
  | 121 => ⟨S10000, .i32⟩
  | 122 => ⟨S10000x1, .i32⟩
  | 123 => ⟨S1, .i32⟩
  | 124 => ⟨S_, .i32⟩
  | 125 => ⟨S10000x1, .i32⟩
  | 126 => ⟨S10000x1, .i1⟩
  | 127 => ⟨S1x1, .i32⟩
  | _ => ⟨S4x10000x128, .f32⟩

abbrev hbmTy0_1 (i : Nat) : BufTy := match i % 128 with
  | 0 => ⟨S10000x1, .i32⟩
  | 1 => ⟨S10000x1, .i1⟩
  | 2 => ⟨S10000x1, .i1⟩
  | 3 => ⟨S_, .i1⟩
  | 4 => ⟨S10000, .i1⟩
  | 5 => ⟨S4x256x10000, .f32⟩
  | 6 => ⟨S4x256x10000, .i1⟩
  | 7 => ⟨S_, .f32⟩
  | 8 => ⟨S4x256x10000, .f32⟩
  | 9 => ⟨S4x256x10000, .f32⟩
  | 10 => ⟨S_, .f32⟩
  | 11 => ⟨S_, .f32⟩
  | 12 => ⟨S4x256x10000, .i1⟩
  | 13 => ⟨S4x256x10000, .f32⟩
  | 14 => ⟨S4x256x10000, .f32⟩
  | 15 => ⟨S4x256x10000, .f32⟩
  | 16 => ⟨S4x256x10000, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S1, .i32⟩
  | 26 => ⟨S_, .i32⟩
  | 27 => ⟨S10000x1, .i32⟩
  | 28 => ⟨S10000x1, .i1⟩
  | 29 => ⟨S1x1, .i32⟩
  | 30 => ⟨S10000x1, .i32⟩
  | 31 => ⟨S10000x1, .i1⟩
  | 32 => ⟨S10000x1, .i1⟩
  | 33 => ⟨S_, .i1⟩
  | 34 => ⟨S10000, .i1⟩
  | 35 => ⟨S4x256x10000, .f32⟩
  | 36 => ⟨S4x256x10000, .i1⟩
  | 37 => ⟨S_, .f32⟩
  | 38 => ⟨S4x256x10000, .f32⟩
  | 39 => ⟨S4x256x10000, .f32⟩
  | 40 => ⟨S_, .f32⟩
  | 41 => ⟨S_, .f32⟩
  | 42 => ⟨S4x256x10000, .i1⟩
  | 43 => ⟨S4x256x10000, .f32⟩
  | 44 => ⟨S4x256x10000, .f32⟩
  | 45 => ⟨S4x256x10000, .f32⟩
  | 46 => ⟨S4x256x10000, .f32⟩
  | 47 => ⟨S_, .i32⟩
  | 48 => ⟨S10000, .i32⟩
  | 49 => ⟨S10000, .i1⟩
  | 50 => ⟨S_, .i32⟩
  | 51 => ⟨S10000, .i32⟩
  | 52 => ⟨S10000, .i32⟩
  | 53 => ⟨S10000, .i32⟩
  | 54 => ⟨S10000x1, .i32⟩
  | 55 => ⟨S1, .i32⟩
  | 56 => ⟨S_, .i32⟩
  | 57 => ⟨S10000x1, .i32⟩
  | 58 => ⟨S10000x1, .i1⟩
  | 59 => ⟨S1x1, .i32⟩
  | 60 => ⟨S10000x1, .i32⟩
  | 61 => ⟨S10000x1, .i1⟩
  | 62 => ⟨S10000x1, .i1⟩
  | 63 => ⟨S_, .i1⟩
  | 64 => ⟨S10000, .i1⟩
  | 65 => ⟨S4x256x10000, .f32⟩
  | 66 => ⟨S4x256x10000, .i1⟩
  | 67 => ⟨S_, .f32⟩
  | 68 => ⟨S4x256x10000, .f32⟩
  | 69 => ⟨S4x256x10000, .f32⟩
  | 70 => ⟨S_, .f32⟩
  | 71 => ⟨S_, .f32⟩
  | 72 => ⟨S4x256x10000, .i1⟩
  | 73 => ⟨S4x256x10000, .f32⟩
  | 74 => ⟨S4x256x10000, .f32⟩
  | 75 => ⟨S4x256x10000, .f32⟩
  | 76 => ⟨S4x256x10000, .f32⟩
  | 77 => ⟨S_, .i32⟩
  | 78 => ⟨S10000, .i32⟩
  | 79 => ⟨S10000, .i1⟩
  | 80 => ⟨S_, .i32⟩
  | 81 => ⟨S10000, .i32⟩
  | 82 => ⟨S10000, .i32⟩
  | 83 => ⟨S10000, .i32⟩
  | 84 => ⟨S10000x1, .i32⟩
  | 85 => ⟨S1, .i32⟩
  | 86 => ⟨S_, .i32⟩
  | 87 => ⟨S10000x1, .i32⟩
  | 88 => ⟨S10000x1, .i1⟩
  | 89 => ⟨S1x1, .i32⟩
  | 90 => ⟨S10000x1, .i32⟩
  | 91 => ⟨S10000x1, .i1⟩
  | 92 => ⟨S10000x1, .i1⟩
  | 93 => ⟨S_, .i1⟩
  | 94 => ⟨S10000, .i1⟩
  | 95 => ⟨S4x256x10000, .f32⟩
  | 96 => ⟨S4x256x10000, .i1⟩
  | 97 => ⟨S_, .f32⟩
  | 98 => ⟨S4x256x10000, .f32⟩
  | 99 => ⟨S4x256x10000, .f32⟩
  | 100 => ⟨S_, .f32⟩
  | 101 => ⟨S_, .f32⟩
  | 102 => ⟨S4x256x10000, .i1⟩
  | 103 => ⟨S4x256x10000, .f32⟩
  | 104 => ⟨S4x256x10000, .f32⟩
  | 105 => ⟨S4x256x10000, .f32⟩
  | 106 => ⟨S4x256x10000, .f32⟩
  | 107 => ⟨S_, .i32⟩
  | 108 => ⟨S10000, .i32⟩
  | 109 => ⟨S10000, .i1⟩
  | 110 => ⟨S_, .i32⟩
  | 111 => ⟨S10000, .i32⟩
  | 112 => ⟨S10000, .i32⟩
  | 113 => ⟨S10000, .i32⟩
  | 114 => ⟨S10000x1, .i32⟩
  | 115 => ⟨S1, .i32⟩
  | 116 => ⟨S_, .i32⟩
  | 117 => ⟨S10000x1, .i32⟩
  | 118 => ⟨S10000x1, .i1⟩
  | 119 => ⟨S1x1, .i32⟩
  | 120 => ⟨S10000x1, .i32⟩
  | 121 => ⟨S10000x1, .i1⟩
  | 122 => ⟨S10000x1, .i1⟩
  | 123 => ⟨S_, .i1⟩
  | 124 => ⟨S10000, .i1⟩
  | 125 => ⟨S4x256x10000, .f32⟩
  | 126 => ⟨S4x256x10000, .i1⟩
  | 127 => ⟨S_, .f32⟩
  | _ => ⟨S4x10000x128, .f32⟩

abbrev hbmTy0_2 (i : Nat) : BufTy := match i % 128 with
  | 0 => ⟨S4x256x10000, .f32⟩
  | 1 => ⟨S4x256x10000, .f32⟩
  | 2 => ⟨S_, .f32⟩
  | 3 => ⟨S_, .f32⟩
  | 4 => ⟨S4x256x10000, .i1⟩
  | 5 => ⟨S4x256x10000, .f32⟩
  | 6 => ⟨S4x256x10000, .f32⟩
  | 7 => ⟨S4x256x10000, .f32⟩
  | 8 => ⟨S4x256x10000, .f32⟩
  | 9 => ⟨S_, .i32⟩
  | 10 => ⟨S10000, .i32⟩
  | 11 => ⟨S10000, .i1⟩
  | 12 => ⟨S_, .i32⟩
  | 13 => ⟨S10000, .i32⟩
  | 14 => ⟨S10000, .i32⟩
  | 15 => ⟨S10000, .i32⟩
  | 16 => ⟨S10000x1, .i32⟩
  | 17 => ⟨S1, .i32⟩
  | 18 => ⟨S_, .i32⟩
  | 19 => ⟨S10000x1, .i32⟩
  | 20 => ⟨S10000x1, .i1⟩
  | 21 => ⟨S1x1, .i32⟩
  | 22 => ⟨S10000x1, .i32⟩
  | 23 => ⟨S10000x1, .i1⟩
  | 24 => ⟨S10000x1, .i1⟩
  | 25 => ⟨S_, .i1⟩
  | 26 => ⟨S10000, .i1⟩
  | 27 => ⟨S4x256x10000, .f32⟩
  | 28 => ⟨S4x256x10000, .i1⟩
  | 29 => ⟨S_, .f32⟩
  | 30 => ⟨S4x256x10000, .f32⟩
  | 31 => ⟨S4x256x10000, .f32⟩
  | 32 => ⟨S_, .f32⟩
  | 33 => ⟨S_, .f32⟩
  | 34 => ⟨S4x256x10000, .i1⟩
  | 35 => ⟨S4x256x10000, .f32⟩
  | 36 => ⟨S4x256x10000, .f32⟩
  | 37 => ⟨S4x256x10000, .f32⟩
  | 38 => ⟨S4x256x10000, .f32⟩
  | 39 => ⟨S_, .f32⟩
  | 40 => ⟨S4x256x10000, .f32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S10000x1, .i32⟩
  | 49 => ⟨S4x256x10000, .f32⟩
  | 50 => ⟨S4x1x10000, .f32⟩
  | 51 => ⟨S4x256x10000, .f32⟩
  | 52 => ⟨S4x256x10000, .f32⟩
  | 53 => ⟨S1x256x1, .f32⟩
  | 54 => ⟨S4x256x10000, .f32⟩
  | 55 => ⟨S4x256x10000, .f32⟩
  | 56 => ⟨S4x256x10000, .f32⟩
  | 57 => ⟨S4x10000x256, .f32⟩
  | 58 => ⟨S_, .f32⟩
  | 59 => ⟨S4x10000, .f32⟩
  | 60 => ⟨S4x10000x1, .f32⟩
  | 61 => ⟨S_, .f32⟩
  | 62 => ⟨S4x10000x1, .f32⟩
  | 63 => ⟨S4x10000x1, .f32⟩
  | 64 => ⟨S4x10000x256, .f32⟩
  | 65 => ⟨S4x10000x256, .f32⟩
  | 66 => ⟨S4x10000x256, .f32⟩
  | 67 => ⟨S_, .f32⟩
  | 68 => ⟨S4x10000, .f32⟩
  | 69 => ⟨S4x10000x1, .f32⟩
  | 70 => ⟨S_, .f32⟩
  | 71 => ⟨S4x10000x1, .f32⟩
  | 72 => ⟨S4x10000x1, .f32⟩
  | 73 => ⟨S4x10000x256, .f32⟩
  | 74 => ⟨S4x10000x256, .f32⟩
  | 75 => ⟨S_, .f32⟩
  | 76 => ⟨S4x10000x1, .f32⟩
  | 77 => ⟨S4x10000x1, .f32⟩
  | 78 => ⟨S4x10000x1, .f32⟩
  | 79 => ⟨S4x10000x256, .f32⟩
  | 80 => ⟨S4x10000x256, .f32⟩
  | 81 => ⟨S1x1x256, .f32⟩
  | 82 => ⟨S4x10000x256, .f32⟩
  | 83 => ⟨S4x10000x256, .f32⟩
  | 84 => ⟨S1x1x256, .f32⟩
  | 85 => ⟨S4x10000x256, .f32⟩
  | 86 => ⟨S4x10000x256, .f32⟩
  | 87 => ⟨S4x10000x256, .f32⟩
  | 88 => ⟨S4x10000x128, .f32⟩
  | _ => ⟨S4x10000x128, .f32⟩

abbrev hbmTy (i : Nat) : BufTy := match i / 128 with
  | 0 => hbmTy0_0 i
  | 1 => hbmTy0_1 i
  | 2 => hbmTy0_2 i
  | _ => ⟨S4x10000x128, .f32⟩

abbrev bufTy : (tb : Table) → Fin (tcTables nBuf tb) → BufTy
  | .hbm, ⟨i, _⟩ => hbmTy i
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v27 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v28 : Ref sig .tc := ⟨.hbm, 105, rfl⟩
abbrev main_c : Ref sig .tc := ⟨.hbm, 106, rfl⟩
abbrev main_v29 : Ref sig .tc := ⟨.hbm, 107, rfl⟩
abbrev main_v30 : Ref sig .tc := ⟨.hbm, 108, rfl⟩
abbrev main_c_0 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_cst : Ref sig .tc := ⟨.hbm, 113, rfl⟩
abbrev main_v34 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v35 : Ref sig .tc := ⟨.hbm, 137, rfl⟩
abbrev main_cst_1 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_call6_cst : Ref sig .tc := ⟨.hbm, 165, rfl⟩
abbrev main_call6_v15 : Ref sig .tc := ⟨.hbm, 166, rfl⟩
abbrev main_v39 : Ref sig .tc := ⟨.hbm, 167, rfl⟩
abbrev main_cst_2 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_call8_c : Ref sig .tc := ⟨.hbm, 175, rfl⟩
abbrev main_call8_v0 : Ref sig .tc := ⟨.hbm, 176, rfl⟩
abbrev main_call8_v1 : Ref sig .tc := ⟨.hbm, 177, rfl⟩
abbrev main_call8_c_0 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_v5 : Ref sig .tc := ⟨.hbm, 182, rfl⟩
abbrev main_call8_c_1 : Ref sig .tc := ⟨.hbm, 183, rfl⟩
abbrev main_call8_c_2 : Ref sig .tc := ⟨.hbm, 184, rfl⟩
abbrev main_call8_v6 : Ref sig .tc := ⟨.hbm, 185, rfl⟩
abbrev main_call8_v7 : Ref sig .tc := ⟨.hbm, 186, rfl⟩
abbrev main_call8_v8 : Ref sig .tc := ⟨.hbm, 187, rfl⟩
abbrev main_call8_v9 : Ref sig .tc := ⟨.hbm, 188, rfl⟩
abbrev main_call8_v10 : Ref sig .tc := ⟨.hbm, 189, rfl⟩
abbrev main_call8_v11 : Ref sig .tc := ⟨.hbm, 190, rfl⟩
abbrev main_call8_c_3 : Ref sig .tc := ⟨.hbm, 191, rfl⟩
abbrev main_call8_v12 : Ref sig .tc := ⟨.hbm, 192, rfl⟩
abbrev main_call8_v13 : Ref sig .tc := ⟨.hbm, 193, rfl⟩
abbrev main_call8_v14 : Ref sig .tc := ⟨.hbm, 194, rfl⟩
abbrev main_call8_cst : Ref sig .tc := ⟨.hbm, 195, rfl⟩
abbrev main_call8_v15 : Ref sig .tc := ⟨.hbm, 196, rfl⟩
abbrev main_v43 : Ref sig .tc := ⟨.hbm, 197, rfl⟩
abbrev main_cst_3 : Ref sig .tc := ⟨.hbm, 198, rfl⟩
abbrev main_call9_v0 : Ref sig .tc := ⟨.hbm, 199, rfl⟩
abbrev main_call9_v1 : Ref sig .tc := ⟨.hbm, 200, rfl⟩
abbrev main_call9_v2 : Ref sig .tc := ⟨.hbm, 201, rfl⟩
abbrev main_v44 : Ref sig .tc := ⟨.hbm, 202, rfl⟩
abbrev main_v45 : Ref sig .tc := ⟨.hbm, 203, rfl⟩
abbrev main_v46 : Ref sig .tc := ⟨.hbm, 204, rfl⟩
abbrev main_call10_c : Ref sig .tc := ⟨.hbm, 205, rfl⟩
abbrev main_call10_v0 : Ref sig .tc := ⟨.hbm, 206, rfl⟩
abbrev main_call10_v1 : Ref sig .tc := ⟨.hbm, 207, rfl⟩
abbrev main_call10_c_0 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_call10_v5 : Ref sig .tc := ⟨.hbm, 212, rfl⟩
abbrev main_call10_c_1 : Ref sig .tc := ⟨.hbm, 213, rfl⟩
abbrev main_call10_c_2 : Ref sig .tc := ⟨.hbm, 214, rfl⟩
abbrev main_call10_v6 : Ref sig .tc := ⟨.hbm, 215, rfl⟩
abbrev main_call10_v7 : Ref sig .tc := ⟨.hbm, 216, rfl⟩
abbrev main_call10_v8 : Ref sig .tc := ⟨.hbm, 217, rfl⟩
abbrev main_call10_v9 : Ref sig .tc := ⟨.hbm, 218, rfl⟩
abbrev main_call10_v10 : Ref sig .tc := ⟨.hbm, 219, rfl⟩
abbrev main_call10_v11 : Ref sig .tc := ⟨.hbm, 220, rfl⟩
abbrev main_call10_c_3 : Ref sig .tc := ⟨.hbm, 221, rfl⟩
abbrev main_call10_v12 : Ref sig .tc := ⟨.hbm, 222, rfl⟩
abbrev main_call10_v13 : Ref sig .tc := ⟨.hbm, 223, rfl⟩
abbrev main_call10_v14 : Ref sig .tc := ⟨.hbm, 224, rfl⟩
abbrev main_call10_cst : Ref sig .tc := ⟨.hbm, 225, rfl⟩
abbrev main_call10_v15 : Ref sig .tc := ⟨.hbm, 226, rfl⟩
abbrev main_v47 : Ref sig .tc := ⟨.hbm, 227, rfl⟩
abbrev main_cst_4 : Ref sig .tc := ⟨.hbm, 228, rfl⟩
abbrev main_call11_v0 : Ref sig .tc := ⟨.hbm, 229, rfl⟩
abbrev main_call11_v1 : Ref sig .tc := ⟨.hbm, 230, rfl⟩
abbrev main_call11_v2 : Ref sig .tc := ⟨.hbm, 231, rfl⟩
abbrev main_v48 : Ref sig .tc := ⟨.hbm, 232, rfl⟩
abbrev main_v49 : Ref sig .tc := ⟨.hbm, 233, rfl⟩
abbrev main_v50 : Ref sig .tc := ⟨.hbm, 234, rfl⟩
abbrev main_call12_c : Ref sig .tc := ⟨.hbm, 235, rfl⟩
abbrev main_call12_v0 : Ref sig .tc := ⟨.hbm, 236, rfl⟩
abbrev main_call12_v1 : Ref sig .tc := ⟨.hbm, 237, rfl⟩
abbrev main_call12_c_0 : Ref sig .tc := ⟨.hbm, 238, rfl⟩
abbrev main_call12_v2 : Ref sig .tc := ⟨.hbm, 239, rfl⟩
abbrev main_call12_v3 : Ref sig .tc := ⟨.hbm, 240, rfl⟩
abbrev main_call12_v4 : Ref sig .tc := ⟨.hbm, 241, rfl⟩
abbrev main_call12_v5 : Ref sig .tc := ⟨.hbm, 242, rfl⟩
abbrev main_call12_c_1 : Ref sig .tc := ⟨.hbm, 243, rfl⟩
abbrev main_call12_c_2 : Ref sig .tc := ⟨.hbm, 244, rfl⟩
abbrev main_call12_v6 : Ref sig .tc := ⟨.hbm, 245, rfl⟩
abbrev main_call12_v7 : Ref sig .tc := ⟨.hbm, 246, rfl⟩
abbrev main_call12_v8 : Ref sig .tc := ⟨.hbm, 247, rfl⟩
abbrev main_call12_v9 : Ref sig .tc := ⟨.hbm, 248, rfl⟩
abbrev main_call12_v10 : Ref sig .tc := ⟨.hbm, 249, rfl⟩
abbrev main_call12_v11 : Ref sig .tc := ⟨.hbm, 250, rfl⟩
abbrev main_call12_c_3 : Ref sig .tc := ⟨.hbm, 251, rfl⟩
abbrev main_call12_v12 : Ref sig .tc := ⟨.hbm, 252, rfl⟩
abbrev main_call12_v13 : Ref sig .tc := ⟨.hbm, 253, rfl⟩
abbrev main_call12_v14 : Ref sig .tc := ⟨.hbm, 254, rfl⟩
abbrev main_call12_cst : Ref sig .tc := ⟨.hbm, 255, rfl⟩
abbrev main_call12_v15 : Ref sig .tc := ⟨.hbm, 256, rfl⟩
abbrev main_v51 : Ref sig .tc := ⟨.hbm, 257, rfl⟩
abbrev main_cst_5 : Ref sig .tc := ⟨.hbm, 258, rfl⟩
abbrev main_call13_v0 : Ref sig .tc := ⟨.hbm, 259, rfl⟩
abbrev main_call13_v1 : Ref sig .tc := ⟨.hbm, 260, rfl⟩
abbrev main_call13_v2 : Ref sig .tc := ⟨.hbm, 261, rfl⟩
abbrev main_v52 : Ref sig .tc := ⟨.hbm, 262, rfl⟩
abbrev main_v53 : Ref sig .tc := ⟨.hbm, 263, rfl⟩
abbrev main_v54 : Ref sig .tc := ⟨.hbm, 264, rfl⟩
abbrev main_call14_c : Ref sig .tc := ⟨.hbm, 265, rfl⟩
abbrev main_call14_v0 : Ref sig .tc := ⟨.hbm, 266, rfl⟩
abbrev main_call14_v1 : Ref sig .tc := ⟨.hbm, 267, rfl⟩
abbrev main_call14_c_0 : Ref sig .tc := ⟨.hbm, 268, rfl⟩
abbrev main_call14_v2 : Ref sig .tc := ⟨.hbm, 269, rfl⟩
abbrev main_call14_v3 : Ref sig .tc := ⟨.hbm, 270, rfl⟩
abbrev main_call14_v4 : Ref sig .tc := ⟨.hbm, 271, rfl⟩
abbrev main_call14_v5 : Ref sig .tc := ⟨.hbm, 272, rfl⟩
abbrev main_call14_c_1 : Ref sig .tc := ⟨.hbm, 273, rfl⟩
abbrev main_call14_c_2 : Ref sig .tc := ⟨.hbm, 274, rfl⟩
abbrev main_call14_v6 : Ref sig .tc := ⟨.hbm, 275, rfl⟩
abbrev main_call14_v7 : Ref sig .tc := ⟨.hbm, 276, rfl⟩
abbrev main_call14_v8 : Ref sig .tc := ⟨.hbm, 277, rfl⟩
abbrev main_call14_v9 : Ref sig .tc := ⟨.hbm, 278, rfl⟩
abbrev main_call14_v10 : Ref sig .tc := ⟨.hbm, 279, rfl⟩
abbrev main_call14_v11 : Ref sig .tc := ⟨.hbm, 280, rfl⟩
abbrev main_call14_c_3 : Ref sig .tc := ⟨.hbm, 281, rfl⟩
abbrev main_call14_v12 : Ref sig .tc := ⟨.hbm, 282, rfl⟩
abbrev main_call14_v13 : Ref sig .tc := ⟨.hbm, 283, rfl⟩
abbrev main_call14_v14 : Ref sig .tc := ⟨.hbm, 284, rfl⟩
abbrev main_call14_cst : Ref sig .tc := ⟨.hbm, 285, rfl⟩
abbrev main_call14_v15 : Ref sig .tc := ⟨.hbm, 286, rfl⟩
abbrev main_v55 : Ref sig .tc := ⟨.hbm, 287, rfl⟩
abbrev main_cst_6 : Ref sig .tc := ⟨.hbm, 288, rfl⟩
abbrev main_call15_v0 : Ref sig .tc := ⟨.hbm, 289, rfl⟩
abbrev main_call15_v1 : Ref sig .tc := ⟨.hbm, 290, rfl⟩
abbrev main_call15_v2 : Ref sig .tc := ⟨.hbm, 291, rfl⟩
abbrev main_v56 : Ref sig .tc := ⟨.hbm, 292, rfl⟩
abbrev main_v57 : Ref sig .tc := ⟨.hbm, 293, rfl⟩
abbrev main_v58 : Ref sig .tc := ⟨.hbm, 294, rfl⟩
abbrev main_cst_7 : Ref sig .tc := ⟨.hbm, 295, rfl⟩
abbrev main_v59 : Ref sig .tc := ⟨.hbm, 296, rfl⟩
abbrev main_c_8 : Ref sig .tc := ⟨.hbm, 297, rfl⟩
abbrev main_v60 : Ref sig .tc := ⟨.hbm, 298, rfl⟩
abbrev main_v61 : Ref sig .tc := ⟨.hbm, 299, rfl⟩
abbrev main_c_9 : Ref sig .tc := ⟨.hbm, 300, rfl⟩
abbrev main_v62 : Ref sig .tc := ⟨.hbm, 301, rfl⟩
abbrev main_v63 : Ref sig .tc := ⟨.hbm, 302, rfl⟩
abbrev main_v64 : Ref sig .tc := ⟨.hbm, 303, rfl⟩
abbrev main_v65 : Ref sig .tc := ⟨.hbm, 304, rfl⟩
abbrev main_v66 : Ref sig .tc := ⟨.hbm, 305, rfl⟩
abbrev main_v67 : Ref sig .tc := ⟨.hbm, 306, rfl⟩
abbrev main_v68 : Ref sig .tc := ⟨.hbm, 307, rfl⟩
abbrev main_v69 : Ref sig .tc := ⟨.hbm, 308, rfl⟩
abbrev main_v70 : Ref sig .tc := ⟨.hbm, 309, rfl⟩
abbrev main_v71 : Ref sig .tc := ⟨.hbm, 310, rfl⟩
abbrev main_v72 : Ref sig .tc := ⟨.hbm, 311, rfl⟩
abbrev main_v73 : Ref sig .tc := ⟨.hbm, 312, rfl⟩
abbrev main_v74 : Ref sig .tc := ⟨.hbm, 313, rfl⟩
abbrev main_cst_10 : Ref sig .tc := ⟨.hbm, 314, rfl⟩
abbrev main_v75 : Ref sig .tc := ⟨.hbm, 315, rfl⟩
abbrev main_v76 : Ref sig .tc := ⟨.hbm, 316, rfl⟩
abbrev main_cst_11 : Ref sig .tc := ⟨.hbm, 317, rfl⟩
abbrev main_v77 : Ref sig .tc := ⟨.hbm, 318, rfl⟩
abbrev main_v78 : Ref sig .tc := ⟨.hbm, 319, rfl⟩
abbrev main_v79 : Ref sig .tc := ⟨.hbm, 320, rfl⟩
abbrev main_v80 : Ref sig .tc := ⟨.hbm, 321, rfl⟩
abbrev main_v81 : Ref sig .tc := ⟨.hbm, 322, rfl⟩
abbrev main_cst_12 : Ref sig .tc := ⟨.hbm, 323, rfl⟩
abbrev main_v82 : Ref sig .tc := ⟨.hbm, 324, rfl⟩
abbrev main_v83 : Ref sig .tc := ⟨.hbm, 325, rfl⟩
abbrev main_cst_13 : Ref sig .tc := ⟨.hbm, 326, rfl⟩
abbrev main_v84 : Ref sig .tc := ⟨.hbm, 327, rfl⟩
abbrev main_v85 : Ref sig .tc := ⟨.hbm, 328, rfl⟩
abbrev main_v86 : Ref sig .tc := ⟨.hbm, 329, rfl⟩
abbrev main_v87 : Ref sig .tc := ⟨.hbm, 330, rfl⟩
abbrev main_cst_14 : Ref sig .tc := ⟨.hbm, 331, rfl⟩
abbrev main_v88 : Ref sig .tc := ⟨.hbm, 332, rfl⟩
abbrev main_v89 : Ref sig .tc := ⟨.hbm, 333, rfl⟩
abbrev main_v90 : Ref sig .tc := ⟨.hbm, 334, rfl⟩
abbrev main_v91 : Ref sig .tc := ⟨.hbm, 335, rfl⟩
abbrev main_v92 : Ref sig .tc := ⟨.hbm, 336, rfl⟩
abbrev main_v93 : Ref sig .tc := ⟨.hbm, 337, rfl⟩
abbrev main_v94 : Ref sig .tc := ⟨.hbm, 338, rfl⟩
abbrev main_v95 : Ref sig .tc := ⟨.hbm, 339, rfl⟩
abbrev main_v96 : Ref sig .tc := ⟨.hbm, 340, rfl⟩
abbrev main_v97 : Ref sig .tc := ⟨.hbm, 341, rfl⟩
abbrev main_v98 : Ref sig .tc := ⟨.hbm, 342, rfl⟩
abbrev main_v99 : Ref sig .tc := ⟨.hbm, 343, rfl⟩
abbrev main_v100 : Ref sig .tc := ⟨.hbm, 344, rfl⟩

abbrev nD : Nat := 1
abbrev τ : Topo := Topo.v7x

variable {F : FTy → Type} [FloatOps F]
-- ==== Proof.KernelIdealFrame.lean ====
/- What one grid point of the compiled kernel does to memory, and the frame of the compiled program: it terminates, nothing
   faults, its arguments end unchanged and every semaphore counter is back at zero. Nothing is said here of the values. -/
module

public import proofs.«01_k».proof.Defs
public import proofs.«01_k».proof.Proof.Gen.KernelIdeal.Skeleton
public import proofs.«01_k».proof.Proof.Gen.KernelIdeal.Frame
public import Idealize.ShloMosaic.Lib.Pipeline.DatRel
public import Idealize.ShloMosaic.Lib.Pipeline.ArrRel
public import Idealize.ShloMosaic.Lib.Quiescent

@[expose] public section

set_option maxRecDepth 16384

noncomputable section

namespace Cert.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel body at any point: from the input blocks, and the output block and the scratch at anything, it runs to its
    end, with the input blocks as they were and the output block and the scratch at something. -/
theorem sound_kernel (c : Dev nD) (E : Set ℕ) (i : grid0.Coords)
    (a1 : Memref sig .tc .vmem S1x10000x128 .f32) (h1 : a1.IsWhole) (a2 : Memref sig .tc .vmem S128x512 .f32) (h2 : a2.IsWhole)
    (a3 : Memref sig .tc .vmem S256x10 .f32) (h3 : a3.IsWhole) (a4 : Memref sig .tc .vmem S8x256 .f32) (h4 : a4.IsWhole)
    (a5 : Memref sig .tc .vmem S1x256 .f32) (h5 : a5.IsWhole) (a6 : Memref sig .tc .vmem S256x128 .f32) (h6 : a6.IsWhole)
    (a7 : Memref sig .tc .vmem S1x10000x128 .f32) (h7 : a7.IsWhole) (a8 : Memref sig .tc .vmem S10016x128 .bf16) (h8 : a8.IsWhole)
    (a9 : Memref sig .tc .vmem S128x770 .bf16) (h9 : a9.IsWhole) (a10 : Memref sig .tc .vmem S256x128 .bf16) (h10 : a10.IsWhole)
    (x1 : Vec F S1x10000x128 .f32) (x2 : Vec F S128x512 .f32) (x3 : Vec F S256x10 .f32) (x4 : Vec F S8x256 .f32)
    (x5 : Vec F S1x256 .f32) (x6 : Vec F S256x128 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (∃ d, owns (c : Thread nD τ) a9 fullShare d) ∗ (∃ d, owns (c : Thread nD τ) a10 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ (∃ d, owns (c : Thread nD τ) a7 fullShare d) ∗ (∃ d, owns (c : Thread nD τ) a8 fullShare d)
            ∗ (∃ d, owns (c : Thread nD τ) a9 fullShare d) ∗ (∃ d, owns (c : Thread nD τ) a10 fullShare d)) -∗ K ⟨⟩))
      ⊢ wp frame (wpE (defs₀ (F := F)) Variants.none c none) E
          (cc0__body i a1 h1 a2 h2 a3 h3 a4 h4 a5 h5 a6 h6 a7 h7 a8 h8 a9 h9 a10 h10) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists _, _; isplitr; swap; · iexact H7
                  ipureintro; rfl
  isplitl [H8]; · iexists _, _; isplitr; swap; · iexact H8
                  ipureintro; rfl
  isplitl [H9]; · iexists _, _; isplitr; swap; · iexact H9
                  ipureintro; rfl
  iexists _, _; isplitr; swap; · iexact H10
  ipureintro; rfl

/-- A whole buffer held at some contents is its whole memref held at some contents. -/
theorem some_of_whole (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  unfold owns; simp only [Memref.view_whole, View.read_whole, View.set_whole]
  iintro ⟨%f, H⟩; iexists f, f; isplitr; · ipureintro; rfl
  iexact H

/-- And back. -/
theorem whole_of_some (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%d, %f, -, H⟩; iexists f; iexact H

/-- The proof data of the one pipeline: the arrays as the region finds them, each input block left in place, the scratch at
    anything between two points. What is left in the output block is not named. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dat m c).A w = V m c (Pipeline.arrRef spec0 w) := by dsimp only [dat]

theorem before_0 (c : Dev nD) (t : Fin cfg0.N) (d) : (dat m c).before 0 t d = iblk m c 0 t :=
  before0_0_of m (dat m c) (A_eq m c 0) (fun _ => by dsimp only [dat]) t d
theorem before_1 (c : Dev nD) (t : Fin cfg0.N) (d) : (dat m c).before 1 t d = iblk m c 1 t :=
  before0_1_of m (dat m c) (A_eq m c 1) (fun _ => by dsimp only [dat]) t d
theorem before_2 (c : Dev nD) (t : Fin cfg0.N) (d) : (dat m c).before 2 t d = iblk m c 2 t :=
  before0_2_of m (dat m c) (A_eq m c 2) (fun _ => by dsimp only [dat]) t d
theorem before_3 (c : Dev nD) (t : Fin cfg0.N) (d) : (dat m c).before 3 t d = iblk m c 3 t :=
  before0_3_of m (dat m c) (A_eq m c 3) (fun _ => by dsimp only [dat]) t d
theorem before_4 (c : Dev nD) (t : Fin cfg0.N) (d) : (dat m c).before 4 t d = iblk m c 4 t :=
  before0_4_of m (dat m c) (A_eq m c 4) (fun _ => by dsimp only [dat]) t d
theorem before_5 (c : Dev nD) (t : Fin cfg0.N) (d) : (dat m c).before 5 t d = iblk m c 5 t :=
  before0_5_of m (dat m c) (A_eq m c 5) (fun _ => by dsimp only [dat]) t d

/-- The output window is the one whose contents are not named. -/
def isOut : Fin cfg0.W → Bool := ![false, false, false, false, false, false, true]

/-- What may be left in the output block: anything. -/
abbrev anyOut (w : Fin cfg0.W) (t : Fin cfg0.N) (X : (cfg0.win w).block.Idx → Elt F (cfg0.win w).elt) : Prop := True

/-- What the body is called with at point `t`, window by window, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜((dat m c).toRRel isOut (anyOut (F := F))).Finds 6 t Y⌝ ∗ owns (c : Thread nD τ) (st0_6 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜anyOut (F := F) 6 t X⌝ ∗ owns (c : Thread nD τ) (st0_6 t) fullShare X))

/-- The body at any point, from the windows' blocks and the scratch at anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.castSucc = Pipeline.ΦA spec0 c from rfl, show (dat m c).Φ t.succ = Pipeline.ΦA spec0 c from rfl,
    show (dat m c).owesAt () t.succ = (dat m c).owesAt () t.castSucc from rfl]
  unfold Pipeline.ΦA
  rw [scopedRest0_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%Y, -, H6⟩⟩
  ihave S0' := (some_of_whole (F := F) c cc0_scratch0) $$ S0
  ihave S1' := (some_of_whole (F := F) c cc0_scratch1) $$ S1
  ihave S2' := (some_of_whole (F := F) c cc0_scratch2) $$ S2
  iapply (sound_kernel c Set.univ _ _ _ _ _ _ _ _ _ _ _ _ _ _ _ _ _ _ _ _ _ (iblk m c 0 t) (iblk m c 1 t) (iblk m c 2 t)
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0']; · iexact S0'
  isplitl [S1']; · iexact S1'
  isplitl [S2']; · iexact S2'
  iintro ⟨H0, H1, H2, H3, H4, H5, ⟨%d6, H6⟩, S0, S1, S2⟩
  isplitl [S0 S1 S2 Hg]
  · isplitr [Hg]
    · isplitl [S0]; · iapply (whole_of_some (F := F) c cc0_scratch0); iexact S0
      isplitl [S1]; · iapply (whole_of_some (F := F) c cc0_scratch1); iexact S1
      iapply (whole_of_some (F := F) c cc0_scratch2); iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; isplitr; · ipureintro; trivial
  iexact H6

/-- The body table's row at a point is the body as it is called there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligationRel (dat (F := F) m c) (defs₀ (F := F)) Variants.none () Set.univ isOut (anyOut (F := F)) := fun t => by
  rw [bigSep_W0, bigSep_W0, defs₀_row]
  exact triple_restated (sound_body m c t) rfl .rfl fun _ => .rfl

set_option backward.isDefEq.respectTransparency.types false in
/-- THE LAUNCH: the run of the whole program, the output array left unnamed. -/
theorem run_main : θ_run defs (onTc (τ := τ) (main (F := F))) (s₀ m ρ)
    (fun r => RDat.FramePost cfg0 (fun c => (dat m c).toRRel isOut (anyOut (F := F))) (V m) r ∧ r.2.sem = fun _ => 0) :=
  Pipeline.RDat.θ_run_frame (Q' := _) cfgs (0 : Fin 1) launch0 defs₀ Variants.none (fun c => (dat m c).toRRel isOut (anyOut (F := F))) m ρ main
    (hbody := fun c => (body_obligation m c).toRRel) (hshare := fun c => (dat m c).share_full fun _ => rfl)
    (howed := fun _ _ => rfl) (V := V m) (hmain := hmain m Variants.none) (hA := A_eq m) (hΦ := fun _ _ => rfl)

/-- An input window's array ends as the region found it. -/
theorem arg_in (c : Dev nD) (w : Fin cfg0.W) (hin : (cfg0.win w).isOut = false) {r : MemSt nD τ sig (Elt F)}
    (h : ∀ w, ((dat m c).toRRel isOut (anyOut (F := F))).ArrAt w cfg0.N (r.mem ((cfg0.spec w).arr.view.loc (c.tc : Thread nD τ)))) :
    r.mem ((cfg0.spec w).arr.view.loc (c.tc : Thread nD τ)) = V m c (Pipeline.arrRef spec0 w) :=
  ((congrFun (RDat.ArrAt_in ((dat m c).toRRel isOut (anyOut (F := F))) w hin cfg0.N) _).mp (h w)).trans (A_eq m c w)

/-- THE FRAME of the compiled program, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨
    (arg_in m c 0 (by decide) (h.1 c).1).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (arg_in m c 1 (by decide) (h.1 c).1).trans (V_main_arg3 m c),
    (arg_in m c 2 (by decide) (h.1 c).1).trans (V_main_arg4 m c),
    (arg_in m c 3 (by decide) (h.1 c).1).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    (arg_in m c 5 (by decide) (h.1 c).1).trans (V_main_arg11 m c)⟩, h.2⟩) (run_main m ρ)

end Cert.KernelIdealFrame
-- ==== Proof.KernelIdealBody.lean ====
/- What one grid point of the idealized kernel does to memory, values included: the fused weights it leaves in the scratch,
   the rows it stages, and the block of the result as a function of them. -/
module

public import proofs.«01_k».proof.Defs
public import proofs.«01_k».proof.Proof.Gen.KernelIdeal.Skeleton
public import proofs.«01_k».proof.Proof.Gen.KernelIdeal.Frame
public import Idealize.ShloMosaic.Lib.Pipeline.DatRel
public import Idealize.ShloMosaic.Lib.Pipeline.ArrRel
public import Idealize.ShloMosaic.Lib.Quiescent
public import Idealize.ShloMosaic.Lib.VecWindow
public import Idealize.ShloMosaic.Lib.ValueIdxCore

@[expose] public section

set_option maxRecDepth 16384

noncomputable section

namespace Cert.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- The left columns of the input weights, which the first matrix product reads. -/
def leftCols (x2 : Vec F S128x512 .f32) : Vec F S128x256 .f32 :=
  VecWindow.window x2 ![0, 0] S128x256.size inb_S128x512_S128x256_0_0

/-- The fused weights of the first point: the input weights, the step weights through the projection, and the two
    projected columns. -/
def fusedW (x2 : Vec F S128x512 .f32) (x3 : Vec F S256x10 .f32) (x4 : Vec F S8x256 .f32) : Vec F S128x770 .bf16 := fun y =>
  if h : (y 1).val < 512 then k0_pay3 x2 (ValueIdx.ix2 (y 0) ⟨(y 1).val, h⟩)
  else if h' : (y 1).val < 768 then k0_pay4 (leftCols x2) x3 x4 (ValueIdx.ix2 (y 0) ⟨(y 1).val - 512, by omega⟩)
  else k0_pay5 (leftCols x2) x3 (ValueIdx.ix2 (y 0) ⟨(y 1).val - 768, by have := (y 1).isLt; simp [S128x770] at this; omega⟩)

/-- The rows of `x` stand in the padded scratch from row 15 on. -/
def Staged (x1 : Vec F S1x10000x128 .f32) (xp : Vec F S10016x128 .bf16) : Prop :=
  ∀ (n : Fin 10000) (k : Fin 128), xp (ValueIdx.ix2 ⟨n.val + 15, by omega⟩ k) = k0_pay7 x1 (ValueIdx.ix2 n k)

/-- The last level that the first rows compute, from which the two stages take the rows' parents. -/
def level3 (v9 : Vec F S4384x128 .bf16) (wf : Vec F S128x770 .bf16) (b : Vec F S1x256 .f32) : FVec F S4096x256 .f32 :=
  k0_pay21 (k0_pay9 v9 wf) (k0_pay12 v9 wf) (k0_pay14 v9 wf b) (k0_pay15 v9 wf b) (k0_pay16 v9 wf b)

/-- The rows of the result that the first rows give. -/
def rowsA (v9 : Vec F S4384x128 .bf16) (wf : Vec F S128x770 .bf16) (b : Vec F S1x256 .f32) (wo : Vec F S256x128 .bf16) :
    FVec F S1x4369x128 .f32 :=
  k0_pay25 (k0_pay10 v9 wf)
    (k0_pay22 (k0_pay9 v9 wf) (k0_pay12 v9 wf) (k0_pay13 v9 wf) (k0_pay14 v9 wf b) (k0_pay15 v9 wf b) (k0_pay16 v9 wf b))
    (k0_pay23 (k0_pay9 v9 wf) (k0_pay12 v9 wf) (k0_pay13 v9 wf) (k0_pay14 v9 wf b) (k0_pay15 v9 wf b) (k0_pay16 v9 wf b))
    (k0_pay24 (k0_pay9 v9 wf) (k0_pay12 v9 wf) (k0_pay13 v9 wf) (k0_pay14 v9 wf b) (k0_pay15 v9 wf b) (k0_pay16 v9 wf b)) wo

/-- The rows of the result that the first stage gives, before they are stored. -/
def rowsB (h3 : FVec F S4096x256 .f32) (v : Vec F S2816x128 .bf16) (wf : Vec F S128x770 .bf16) (b : Vec F S1x256 .f32)
    (wo : Vec F S256x128 .bf16) : FVec F S2816x128 .f32 :=
  k0_pay35 h3 (k0_pay27 v wf) (k0_pay28 v wf) (k0_pay29 v wf b) (k0_pay30 v wf) (k0_pay31 v wf) (k0_pay32 v wf b)
    (k0_pay33 v wf b) k0_pay34 wo

/-- The rows of the result that the second stage gives. -/
def rowsC (h3 : FVec F S4096x256 .f32) (v : Vec F S2816x128 .bf16) (wf : Vec F S128x770 .bf16) (b : Vec F S1x256 .f32)
    (wo : Vec F S256x128 .bf16) : FVec F S1x2815x128 .f32 :=
  k0_pay1 (k0_pay38 v wf) (k0_pay39 v wf) (k0_pay40 v wf) (k0_pay41 v wf b) (k0_pay42 v wf b) (k0_pay43 h3) wo

/-- The three runs of padded rows. -/
def runA (xp : Vec F S10016x128 .bf16) : Vec F S4384x128 .bf16 :=
  VecWindow.window xp ![0, 0] S4384x128.size inb_S10016x128_S4384x128_0_0
def runB (xp : Vec F S10016x128 .bf16) : Vec F S2816x128 .bf16 :=
  VecWindow.window xp ![4384, 0] S2816x128.size inb_S10016x128_S2816x128_4384_0
def runC (xp : Vec F S10016x128 .bf16) : Vec F S2816x128 .bf16 :=
  VecWindow.window xp ![7200, 0] S2816x128.size inb_S10016x128_S2816x128_7200_0

/-- The block of the result a point leaves, over what it found there. -/
def outBlk (d : Vec F S1x10000x128 .f32) (xp : Vec F S10016x128 .bf16) (wf : Vec F S128x770 .bf16) (b : Vec F S1x256 .f32)
    (wo : Vec F S256x128 .bf16) : Vec F S1x10000x128 .f32 :=
  VecWindow.put (VecWindow.put (VecWindow.put d ![0, 0, 0] S1x4369x128.size (rowsA (runA xp) wf b wo))
      ![0, 4369, 0] S1x2816x128.size (k0_pay36 (rowsB (level3 (runA xp) wf b) (runB xp) wf b wo)))
    ![0, 7185, 0] S1x2815x128.size (rowsC (level3 (runA xp) wf b) (runC xp) wf b wo)

/-- Whether the body runs its first-point branch. -/
abbrev firstBranch (i : grid0.Coords) : Prop :=
  Scalar.cmpi .ne (Scalar.extui (Scalar.cmpi .eq (BitVec.ofNat 32 (i 0).val) 0#32) : BitVec 32) 0#32 = 1#1

/-- The three stores of the fused weights leave them. -/
theorem read_fused (a9 : Memref sig .tc .vmem S128x770 .bf16) (f9 : a9.view.ty.Contents (Elt F)) (x2 : Vec F S128x512 .f32)
    (x3 : Vec F S256x10 .f32) (x4 : Vec F S8x256 .f32) :
    a9.view.read (Elt F) (a9.view.writes (Elt F) f9
      [⟨Rect.unit ![0, 768] S128x2.size inb_S128x770_S128x2_0_768, k0_pay5 (leftCols x2) x3⟩,
        ⟨Rect.unit ![0, 512] S128x256.size inb_S128x770_S128x256_0_512, k0_pay4 (leftCols x2) x3 x4⟩,
        ⟨Rect.unit ![0, 0] S128x512.size inb_S128x770_S128x512_0_0, k0_pay3 x2⟩]) = fusedW x2 x3 x4 := by
  funext y
  have h0 := (y 0).isLt
  have h1 := (y 1).isLt
  simp [S128x770] at h0 h1
  rw [View.read_writes_cons_unit _ _ _ _ _ _ rfl]
  unfold fusedW
  by_cases h5 : (y 1).val < 512
  · rw [dif_pos h5, dif_neg (fun h => by have := h 1; simp at this; omega), View.read_writes_cons_unit _ _ _ _ _ _ rfl,
      dif_neg (fun h => by have := h 1; simp at this; omega), View.read_writes_cons_unit _ _ _ _ _ _ rfl,
      dif_pos (Fin.forall_fin_two.mpr ⟨by simp [S128x512]; omega, by simp [S128x512]; omega⟩)]
    exact congrArg _ (funext (Fin.forall_fin_two.mpr ⟨Fin.ext (by simp), Fin.ext (by simp)⟩))
  · rw [dif_neg h5]
    by_cases h7 : (y 1).val < 768
    · rw [dif_pos h7, dif_neg (fun h => by have := h 1; simp at this; omega), View.read_writes_cons_unit _ _ _ _ _ _ rfl,
        dif_pos (Fin.forall_fin_two.mpr ⟨by simp [S128x256]; omega, by simp [S128x256]; omega⟩)]
      exact congrArg _ (funext (Fin.forall_fin_two.mpr ⟨Fin.ext (by simp), Fin.ext (by simp)⟩))
    · rw [dif_neg h7, dif_pos (Fin.forall_fin_two.mpr ⟨by simp [S128x2]; omega, by simp [S128x2]; omega⟩)]
      exact congrArg _ (funext (Fin.forall_fin_two.mpr ⟨Fin.ext (by simp), Fin.ext (by simp)⟩))

/-- The same, with the weights as the loads give them. -/
theorem read_fused_loads (a9 : Memref sig .tc .vmem S128x770 .bf16) (f9 : a9.view.ty.Contents (Elt F))
    (a2 : Memref sig .tc .vmem S128x512 .f32) (f2 : a2.view.ty.Contents (Elt F))
    (a3 : Memref sig .tc .vmem S256x10 .f32) (f3 : a3.view.ty.Contents (Elt F))
    (a4 : Memref sig .tc .vmem S8x256 .f32) (f4 : a4.view.ty.Contents (Elt F)) :
    a9.view.read (Elt F) (a9.view.writes (Elt F) f9
      [⟨Rect.unit ![0, 768] S128x2.size inb_S128x770_S128x2_0_768,
          k0_pay5 (a2.view.readAt (Elt F) (Rect.unit (s := S128x512) ![0, 0] S128x256.size inb_S128x512_S128x256_0_0).toLoadRect f2)
            (a3.view.readAt (Elt F) (Rect.unit ![0, 0] S256x10.size inb_S256x10_S256x10_0_0).toLoadRect f3)⟩,
        ⟨Rect.unit ![0, 512] S128x256.size inb_S128x770_S128x256_0_512,
          k0_pay4 (a2.view.readAt (Elt F) (Rect.unit (s := S128x512) ![0, 0] S128x256.size inb_S128x512_S128x256_0_0).toLoadRect f2)
            (a3.view.readAt (Elt F) (Rect.unit ![0, 0] S256x10.size inb_S256x10_S256x10_0_0).toLoadRect f3)
            (a4.view.readAt (Elt F) (Rect.unit ![0, 0] S8x256.size inb_S8x256_S8x256_0_0).toLoadRect f4)⟩,
        ⟨Rect.unit ![0, 0] S128x512.size inb_S128x770_S128x512_0_0,
          k0_pay3 (a2.view.readAt (Elt F) (Rect.unit ![0, 0] S128x512.size inb_S128x512_S128x512_0_0).toLoadRect f2)⟩])
      = fusedW (a2.view.read (Elt F) f2) (a3.view.read (Elt F) f3) (a4.view.read (Elt F) f4) := by
  rw [View.readAt_full a3.view, View.readAt_full a4.view, View.readAt_full a2.view]
  exact read_fused a9 f9 _ _ _

/-- What the staging store puts over rows 14 to 10015: row 14 as it was and the rows of `x` after it. -/
def stagedWin (x1 : Vec F S1x10000x128 .f32) (old : Vec F S10016x128 .bf16) : Vec F S10002x128 .bf16 :=
  updateSlice (VecWindow.window old ![14, 0] S10002x128.size inb_S10016x128_S10002x128_14_0 : Vec F S10002x128 .bf16) (k0_pay7 x1) ![1, 0]
    slices_S10002x128_S10000x128_1_0

/-- The padded rows after the staging store, over what they were. -/
def stagedOver (x1 : Vec F S1x10000x128 .f32) (old : Vec F S10016x128 .bf16) : Vec F S10016x128 .bf16 :=
  VecWindow.put old ![14, 0] S10002x128.size (stagedWin x1 old)

/-- The staging store stages the rows. -/
theorem staged_stagedOver (x1 : Vec F S1x10000x128 .f32) (old : Vec F S10016x128 .bf16) : Staged x1 (stagedOver x1 old) := fun n k => by
  have hn := n.isLt
  have hk := k.isLt
  have h : ∀ a, (![14, 0] : Fin 2 → ℕ) a ≤ ((ValueIdx.ix2 (⟨n.val + 15, by omega⟩ : Fin 10016) k : S10016x128.Idx) a).val
      ∧ ((ValueIdx.ix2 (⟨n.val + 15, by omega⟩ : Fin 10016) k : S10016x128.Idx) a).val < (![14, 0] : Fin 2 → ℕ) a + S10002x128.size a :=
    Fin.forall_fin_two.mpr ⟨⟨by show 14 ≤ n.val + 15; omega, by show n.val + 15 < 14 + 10002; omega⟩,
      ⟨Nat.zero_le _, by show k.val < 0 + 128; omega⟩⟩
  unfold stagedOver VecWindow.put
  rw [dif_pos h]
  unfold stagedWin updateSlice
  rw [dif_pos (Fin.forall_fin_two.mpr ⟨⟨by show 1 ≤ n.val + 15 - 14; omega, by show n.val + 15 - 14 < 1 + 10000; omega⟩,
      ⟨Nat.zero_le _, by show k.val - 0 < 0 + 128; omega⟩⟩)]
  exact congrArg _ (funext (Fin.forall_fin_two.mpr ⟨Fin.ext (by show n.val + 15 - 14 - 1 = n.val; omega), Fin.ext (by show k.val - 0 - 0 = k.val; omega)⟩))

/-- A load of staged rows, from what the one staging store certainly wrote, is the load of the staged rows over anything. -/
theorem readCov_staged (a8 : Memref sig .tc .vmem S10016x128 .bf16) (old : Vec F S10016x128 .bf16) (w : Vec F S10002x128 .bf16)
    (off size : Fin 2 → ℕ) (inb : ∀ a, off a + size a ≤ S10016x128.size a)
    (h : ∀ a, (![14, 0] : Fin 2 → ℕ) a ≤ off a ∧ off a + size a ≤ (![14, 0] : Fin 2 → ℕ) a + S10002x128.size a) :
    a8.view.readCov (Val := Elt F) [⟨Rect.unit ![14, 0] S10002x128.size inb_S10016x128_S10002x128_14_0, w⟩] (Rect.unit off size inb).toLoadRect
      = VecWindow.window (VecWindow.put old ![14, 0] S10002x128.size w) off size inb := by
  rw [VecWindow.window_put_of_inside _ _ _ _ _ _ _ h]
  show a8.view.readAt (Elt F) (Rect.unit off size inb).toLoadRect (a8.view.writes (Elt F) a8.view.junk _) = _
  rw [View.readAt_unit _ _ inb rfl inb, View.read_writes_cons_put _ _ _ _ _ rfl, VecWindow.window_put_of_inside _ _ _ _ _ _ _ h]

/-- The kernel body at any point: from the input blocks, the output block and the padded rows at anything, and (past the first
    point) the fused weights in the scratch, it runs to its end with the input blocks as they were, the fused weights in the
    scratch, and in the output block what `outBlk` makes of the staged rows. -/
theorem sound_kernel (c : Dev nD) (E : Set ℕ) (i : grid0.Coords)
    (a1 : Memref sig .tc .vmem S1x10000x128 .f32) (h1 : a1.IsWhole) (a2 : Memref sig .tc .vmem S128x512 .f32) (h2 : a2.IsWhole)
    (a3 : Memref sig .tc .vmem S256x10 .f32) (h3 : a3.IsWhole) (a4 : Memref sig .tc .vmem S8x256 .f32) (h4 : a4.IsWhole)
    (a5 : Memref sig .tc .vmem S1x256 .f32) (h5 : a5.IsWhole) (a6 : Memref sig .tc .vmem S256x128 .f32) (h6 : a6.IsWhole)
    (a7 : Memref sig .tc .vmem S1x10000x128 .f32) (h7 : a7.IsWhole) (a8 : Memref sig .tc .vmem S10016x128 .bf16) (h8 : a8.IsWhole)
    (a9 : Memref sig .tc .vmem S128x770 .bf16) (h9 : a9.IsWhole) (a10 : Memref sig .tc .vmem S256x128 .bf16) (h10 : a10.IsWhole)
    (x1 : Vec F S1x10000x128 .f32) (x2 : Vec F S128x512 .f32) (x3 : Vec F S256x10 .f32) (x4 : Vec F S8x256 .f32)
    (x5 : Vec F S1x256 .f32) (x6 : Vec F S256x128 .f32) (d9 : Vec F S128x770 .bf16)
    (d10 : Vec F S256x128 .bf16) (hcarry : ¬ firstBranch i → d9 = fusedW x2 x3 x4 ∧ d10 = k0_pay6 x6) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ owns (c : Thread nD τ) a9 fullShare d9 ∗ owns (c : Thread nD τ) a10 fullShare d10
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ (∃ d, ⌜∃ xp d', Staged x1 xp ∧ d = outBlk d' xp (fusedW x2 x3 x4) x5 (k0_pay6 x6)⌝ ∗ owns (c : Thread nD τ) a7 fullShare d)
            ∗ (∃ d, owns (c : Thread nD τ) a8 fullShare d)
            ∗ owns (c : Thread nD τ) a9 fullShare (fusedW x2 x3 x4) ∗ owns (c : Thread nD τ) a10 fullShare (k0_pay6 x6)) -∗ K ⟨⟩))
      ⊢ wp frame (wpE (defs₀ (F := F)) Variants.none c none) E
          (cc0__body i a1 h1 a2 h2 a3 h3 a4 h4 a5 h5 a6 h6 a7 h7 a8 h8 a9 h9 a10 h10) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%f9, %hf9, H9⟩, ⟨%f10, %hf10, H10⟩, Hk⟩
  subst hf1 hf2 hf3 hf4 hf5 hf6 hf9 hf10
  sl_exec
  sl_unfold_run_names
  generalize hG9 : (if hc : firstBranch i then _ else f9) = G9
  generalize hG10 : (if hc : firstBranch i then _ else f10) = G10
  have r9 : a9.view.read (Elt F) G9 = fusedW (a2.view.read (Elt F) f2) (a3.view.read (Elt F) f3) (a4.view.read (Elt F) f4) := by
    rw [← hG9]
    by_cases hc : firstBranch i
    · rw [dif_pos hc]
      exact read_fused_loads a9 f9 a2 f2 a3 f3 a4 f4
    · rw [dif_neg hc]; exact (hcarry hc).1
  have r10 : a10.view.read (Elt F) G10 = k0_pay6 (a6.view.read (Elt F) f6) := by
    rw [← hG10]
    by_cases hc : firstBranch i
    · rw [dif_pos hc]
      exact (View.read_writes_full _ _ _ _ _).trans (congrArg k0_pay6 (View.readAt_full _ _ _))
    · rw [dif_neg hc]; exact (hcarry hc).2
  clear hG9 hG10
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap
    · iexists _; isplitr; swap; · iexact H7
      ipureintro; rfl
    ipureintro
    refine ⟨stagedOver (a1.view.read (Elt F) f1) (a8.view.read (Elt F) f8), a7.view.read (Elt F) f7, staged_stagedOver _ _, ?_⟩
    have e9 : a9.view.readAt (Elt F) (Rect.unit ![0, 0] S128x770.size inb_S128x770_S128x770_0_0).toLoadRect G9 = _ :=
      (View.readAt_full _ _ _).trans r9
    have e10 : a10.view.readAt (Elt F) (Rect.unit ![0, 0] S256x128.size inb_S256x128_S256x128_0_0).toLoadRect G10 = _ :=
      (View.readAt_full _ _ _).trans r10
    have e5 : a5.view.readAt (Elt F) (Rect.unit ![0, 0] S1x256.size inb_S1x256_S1x256_0_0).toLoadRect f5 = _ :=
      View.readAt_full _ _ _
    have e1 : a1.view.readAt (Elt F) (Rect.unit ![0, 0, 0] S1x10000x128.size inb_S1x10000x128_S1x10000x128_0_0_0).toLoadRect f1 = _ :=
      View.readAt_full _ _ _
    have e8 : a8.view.readAt (Elt F) (Rect.unit (s := S10016x128) ![14, 0] S10002x128.size inb_S10016x128_S10002x128_14_0).toLoadRect f8
      = VecWindow.window (a8.view.read (Elt F) f8) ![14, 0] S10002x128.size inb_S10016x128_S10002x128_14_0 := View.readAt_unit _ _ _ rfl _
    rw [View.read_writes_cons_put _ _ _ _ _ rfl, View.read_writes_cons_put _ _ _ _ _ rfl, View.read_writes_cons_put _ _ _ _ _ rfl,
      e9, e10, e5, e1, e8]
    have eA : ∀ w, a8.view.readAt (Elt F) (Rect.unit (s := S10016x128) ![0, 0] S4384x128.size inb_S10016x128_S4384x128_0_0).toLoadRect
        (a8.view.writes (Elt F) f8 [⟨Rect.unit ![14, 0] S10002x128.size inb_S10016x128_S10002x128_14_0, w⟩])
        = runA (VecWindow.put (a8.view.read (Elt F) f8) ![14, 0] S10002x128.size w) := fun w => by
      rw [View.readAt_unit _ _ inb_S10016x128_S4384x128_0_0 rfl inb_S10016x128_S4384x128_0_0, View.read_writes_cons_put _ _ _ _ _ rfl]
      rfl
    have eB : ∀ w, a8.view.readCov (Val := Elt F) [⟨Rect.unit ![14, 0] S10002x128.size inb_S10016x128_S10002x128_14_0, w⟩]
        (Rect.unit (s := S10016x128) ![4384, 0] S2816x128.size inb_S10016x128_S2816x128_4384_0).toLoadRect
        = runB (VecWindow.put (a8.view.read (Elt F) f8) ![14, 0] S10002x128.size w) := fun w =>
      readCov_staged a8 _ w _ _ _ (by decide)
    have eC : ∀ w, a8.view.readCov (Val := Elt F) [⟨Rect.unit ![14, 0] S10002x128.size inb_S10016x128_S10002x128_14_0, w⟩]
        (Rect.unit (s := S10016x128) ![7200, 0] S2816x128.size inb_S10016x128_S2816x128_7200_0).toLoadRect
        = runC (VecWindow.put (a8.view.read (Elt F) f8) ![14, 0] S10002x128.size w) := fun w =>
      readCov_staged a8 _ w _ _ _ (by decide)
    rw [eA, eB, eC]
    rfl
  isplitl [H8]; · iexists _, _; isplitr; swap; · iexact H8
                  ipureintro; rfl
  isplitl [H9]; · iexists G9; isplitr; · ipureintro; exact r9
                  iexact H9
  iexists G10; isplitr; · ipureintro; exact r10
  iexact H10

end Cert.KernelIdealBody
-- ==== Proof.KernelIdealRun.lean ====
/- The run of the idealized kernel with its result: each block of the result array is what its point leaves there, a function
   of the staged rows, the fused weights (written at the first point, carried to the others) and the argument blocks. -/
module

public import proofs.«01_k».proof.Defs
public import proofs.«01_k».proof.Proof.Gen.KernelIdeal.Skeleton
public import proofs.«01_k».proof.Proof.Gen.KernelIdeal.Frame
public import Idealize.ShloMosaic.Lib.Pipeline.DatRel
public import Idealize.ShloMosaic.Lib.Pipeline.ArrRel
public import Idealize.ShloMosaic.Lib.Quiescent
public import Idealize.ShloMosaic.Lib.Pipeline.ValueKit
public import Idealize.ShloMosaic.Lib.Claim
public import Idealize.ShloMosaic.Lib.Pointwise
public import proofs.«01_k».proof.Proof.KernelIdealFrame
public import proofs.«01_k».proof.Proof.KernelIdealBody

@[expose] public section

set_option maxRecDepth 16384

noncomputable section

namespace Cert.KernelIdealRun

open Cert.KernelIdeal Cert.KernelIdeal.Gen Cert.KernelIdealBody
open Cert.KernelIdealFrame (some_of_whole whole_of_some isOut defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which block each window has at a point: the batch's for `x` and the result, the one whole block for the weights. -/
theorem index_0 : ∀ t : Fin cfg0.N, win0_0.index t = ![t.val, 0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![t.val, 0, 0] := by decide +kernel

/-- The blocks of the weights are the whole arrays, at every point. -/
theorem iblk_1 (c : Dev nD) (t : Fin cfg0.N) : (iblk m c 1 t : Vec F S128x512 .f32) = m ((c : Thread nD τ).loc main_arg3) := by
  funext y; blk_simp [iblk]; rw [V_main_arg3]; exact congrArg _ (by blk_ext [index_1])
theorem iblk_2 (c : Dev nD) (t : Fin cfg0.N) : (iblk m c 2 t : Vec F S256x10 .f32) = m ((c : Thread nD τ).loc main_arg4) := by
  funext y; blk_simp [iblk]; rw [V_main_arg4]; exact congrArg _ (by blk_ext [index_2])
theorem iblk_3 (c : Dev nD) (t : Fin cfg0.N) : (iblk m c 3 t : Vec F S8x256 .f32) = m ((c : Thread nD τ).loc main_arg5) := by
  funext y; blk_simp [iblk]; rw [V_main_arg5]; exact congrArg _ (by blk_ext [index_3])
theorem iblk_5 (c : Dev nD) (t : Fin cfg0.N) : (iblk m c 5 t : Vec F S256x128 .f32) = m ((c : Thread nD τ).loc main_arg11) := by
  funext y; blk_simp [iblk]; rw [V_main_arg11]; exact congrArg _ (by blk_ext [index_5])
theorem iblk_4 (c : Dev nD) (t : Fin cfg0.N) (j : Fin 256) :
    (iblk m c 4 t : Vec F S1x256 .f32) (ValueIdx.ix2 0 j) = m ((c : Thread nD τ).loc main_arg6) (ValueIdx.ix1 j) := by
  blk_simp [iblk]; entry_read; pointwise
  exact congrArg (m ((c : Thread nD τ).loc main_arg6)) (congrArg ValueIdx.ix1 (Fin.ext (by blk_simp [index_4])))
theorem iblk_0 (c : Dev nD) (t : Fin cfg0.N) (n : Fin 10000) (k : Fin 128) :
    (iblk m c 0 t : Vec F S1x10000x128 .f32) (ValueIdx.ix3 0 n k) = m ((c : Thread nD τ).loc main_arg0) (ValueIdx.ix3 t n k) := by
  blk_simp [iblk]; rw [V_main_arg0]; exact congrArg _ (by blk_ext [index_0])

/-- The fused weights the first point leaves in the scratch, -/
def fused (c : Dev nD) : Vec F S128x770 .bf16 := fusedW (m ((c : Thread nD τ).loc main_arg3)) (m ((c : Thread nD τ).loc main_arg4)) (m ((c : Thread nD τ).loc main_arg5))

/-- and the output weights. -/
def wout (c : Dev nD) : Vec F S256x128 .bf16 := k0_pay6 (m ((c : Thread nD τ).loc main_arg11))

/-- What a point may leave in its block of the result. -/
def Left (c : Dev nD) (t : Fin cfg0.N) (X : Vec F S1x10000x128 .f32) : Prop :=
  ∃ xp d, Staged (iblk m c 0 t) xp ∧ X = outBlk d xp (fused m c) (iblk m c 4 t) (wout m c)

/-- What stands in the scratch before point `n`: past the first point, the fused weights and the output weights. -/
def carried (c : Dev nD) (n : ℕ) : sProp 𝕄 :=
  iprop(∃ d9 d10, ⌜n ≠ 0 → d9 = fused m c ∧ d10 = wout m c⌝
    ∗ (∃ d, owns (c : Thread nD τ) (Memref.whole cc0_scratch0) fullShare d)
    ∗ owns (c : Thread nD τ) (Memref.whole cc0_scratch1) fullShare d9 ∗ owns (c : Thread nD τ) (Memref.whole cc0_scratch2) fullShare d10
    ∗ ∃ r, prngReg c r)

/-- The proof data of the one pipeline: the arrays as the region finds them, each input block left in place, the weights
    carried in the scratch. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := carried m c t.val
  q _ := fullShare
  owed _ := 0

theorem A_eq (c : Dev nD) (w : Fin cfg0.W) : (dat m c).A w = V m c (Pipeline.arrRef spec0 w) := by dsimp only [dat]

theorem before_0 (c : Dev nD) (t : Fin cfg0.N) (d) : (dat m c).before 0 t d = iblk m c 0 t :=
  before0_0_of m (dat m c) (A_eq m c 0) (fun _ => by dsimp only [dat]) t d
theorem before_1 (c : Dev nD) (t : Fin cfg0.N) (d) : (dat m c).before 1 t d = iblk m c 1 t :=
  before0_1_of m (dat m c) (A_eq m c 1) (fun _ => by dsimp only [dat]) t d
theorem before_2 (c : Dev nD) (t : Fin cfg0.N) (d) : (dat m c).before 2 t d = iblk m c 2 t :=
  before0_2_of m (dat m c) (A_eq m c 2) (fun _ => by dsimp only [dat]) t d
theorem before_3 (c : Dev nD) (t : Fin cfg0.N) (d) : (dat m c).before 3 t d = iblk m c 3 t :=
  before0_3_of m (dat m c) (A_eq m c 3) (fun _ => by dsimp only [dat]) t d
theorem before_4 (c : Dev nD) (t : Fin cfg0.N) (d) : (dat m c).before 4 t d = iblk m c 4 t :=
  before0_4_of m (dat m c) (A_eq m c 4) (fun _ => by dsimp only [dat]) t d
theorem before_5 (c : Dev nD) (t : Fin cfg0.N) (d) : (dat m c).before 5 t d = iblk m c 5 t :=
  before0_5_of m (dat m c) (A_eq m c 5) (fun _ => by dsimp only [dat]) t d

/-- What may be left in a window's block: of the result's, what `Left` says. -/
def leftIn (c : Dev nD) (w : Fin cfg0.W) (t : Fin cfg0.N) (X : (cfg0.win w).block.Idx → Elt F (cfg0.win w).elt) : Prop :=
  match w, X with
  | ⟨6, _⟩, X => Left m c t X
  | _, _ => True

/-- What the body is called with at point `t`, window by window, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜((dat m c).toRRel isOut (leftIn m c)).Finds 6 t Y⌝ ∗ owns (c : Thread nD τ) (st0_6 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Left m c t X⌝ ∗ owns (c : Thread nD τ) (st0_6 t) fullShare X))

/-- The first point alone takes the body's first branch. -/
theorem firstBranch_iff : ∀ t : Fin cfg0.N, firstBranch (grid0.coords t) ↔ t.val = 0 := by decide +kernel

/-- The body at any point, from the windows' blocks and the carried scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.castSucc = carried m c t.val from rfl, show (dat m c).Φ t.succ = carried m c (t.val + 1) from rfl,
    show (dat m c).owesAt () t.succ = (dat m c).owesAt () t.castSucc from rfl]
  unfold carried
  iintro ⟨⟨%d9, %d10, %hd, S0, S1, S2, Hg⟩, Ho, ⟨%d0, H0⟩, ⟨%d1, H1⟩, ⟨%d2, H2⟩, ⟨%d3, H3⟩, ⟨%d4, H4⟩, ⟨%d5, H5⟩, ⟨%Y, -, H6⟩⟩
  iapply (sound_kernel c Set.univ _ _ _ _ _ _ _ _ _ _ _ _ _ _ _ _ _ _ _ _ _ (iblk m c 0 t) (iblk m c 1 t) (iblk m c 2 t)
    (iblk m c 3 t) (iblk m c 4 t) (iblk m c 5 t) d9 d10 (fun h => by
      rw [iblk_1 m c t, iblk_2 m c t, iblk_3 m c t, iblk_5 m c t]
      exact hd fun h0 => h ((firstBranch_iff t).mpr h0)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  rw [show fusedW (iblk m c 1 t) (iblk m c 2 t) (iblk m c 3 t) = fused m c from by
      rw [iblk_1 m c t, iblk_2 m c t, iblk_3 m c t]; rfl,
    show k0_pay6 (iblk m c 5 t) = wout m c from by rw [iblk_5 m c t]; rfl]
  iintro ⟨H0, H1, H2, H3, H4, H5, ⟨%d6, %hd6, H6⟩, S0, S1, S2⟩
  isplitl [S0 S1 S2 Hg]
  · iexists fused m c, wout m c
    isplitr; · ipureintro; exact fun _ => ⟨rfl, rfl⟩
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; isplitr; · ipureintro; exact hd6
  iexact H6

/-- The body obligation at every point. -/
theorem body_obligation (c : Dev nD) :
    Pipeline.BodyObligationRel (dat (F := F) m c) (defs₀ (F := F)) Variants.none () Set.univ isOut (leftIn m c) := fun t => by
  rw [bigSep_W0, bigSep_W0, defs₀_row]
  exact triple_restated (sound_body m c t) rfl .rfl fun _ => .rfl

/-- Before the first point the scratch holds anything. -/
theorem carried_in (c : Dev nD) : Pipeline.ΦA spec0 c ⊢ carried m c 0 := by
  unfold Pipeline.ΦA carried
  rw [scopedRest0_eq]
  iintro ⟨⟨S0, S1, S2⟩, Hg⟩
  ihave S0' := (some_of_whole (F := F) c cc0_scratch0) $$ S0
  ihave S1' := (some_of_whole (F := F) c cc0_scratch1) $$ S1
  ihave S2' := (some_of_whole (F := F) c cc0_scratch2) $$ S2
  icases S1' with ⟨%d9, S1'⟩
  icases S2' with ⟨%d10, S2'⟩
  iexists d9, d10
  isplitr; · ipureintro; exact fun h => absurd rfl h
  isplitl [S0']; · iexact S0'
  isplitl [S1']; · iexact S1'
  isplitl [S2']; · iexact S2'
  iexact Hg

/-- After the last it may hold anything again. -/
theorem carried_out (c : Dev nD) (n : ℕ) : carried m c n ⊢ Pipeline.ΦA spec0 c := by
  unfold Pipeline.ΦA carried
  rw [scopedRest0_eq]
  iintro ⟨%d9, %d10, -, S0, S1, S2, Hg⟩
  isplitr [Hg]
  · isplitl [S0]; · iapply (whole_of_some (F := F) c cc0_scratch0); iexact S0
    isplitl [S1]; · iapply (whole_of_some (F := F) c cc0_scratch1); iexists d9; iexact S1
    iapply (whole_of_some (F := F) c cc0_scratch2); iexists d10; iexact S2
  · iexact Hg

set_option backward.isDefEq.respectTransparency.types false in
/-- THE LAUNCH: the run of the whole program, each block of the result held to what its point leaves there. -/
theorem run_main : θ_run defs (onTc (τ := τ) (main (F := F))) (s₀ m ρ)
    (fun r => RDat.FramePost cfg0 (fun c => (dat m c).toRRel isOut (leftIn m c)) (V m) r ∧ r.2.sem = fun _ => 0) :=
  Pipeline.RDat.θ_run_frame_track (Q' := _) cfgs (0 : Fin 1) launch0 defs₀ Variants.none (fun c => (dat m c).toRRel isOut (leftIn m c)) m ρ main
    (hbody := fun c => (body_obligation m c).toRRel) (hshare := fun c => (dat m c).share_full fun _ => rfl)
    (howed := fun _ _ => rfl) (V := V m) (hmain := hmain m Variants.none) (hA := A_eq m)
    (hin := fun c => carried_in m c) (hout := fun c => carried_out m c _)

/-- An input window's array ends as the region found it. -/
theorem arg_in (c : Dev nD) (w : Fin cfg0.W) (hin : (cfg0.win w).isOut = false) {r : MemSt nD τ sig (Elt F)}
    (h : ∀ w, ((dat m c).toRRel isOut (leftIn m c)).ArrAt w cfg0.N (r.mem ((cfg0.spec w).arr.view.loc (c.tc : Thread nD τ)))) :
    r.mem ((cfg0.spec w).arr.view.loc (c.tc : Thread nD τ)) = V m c (Pipeline.arrRef spec0 w) :=
  ((congrFun (RDat.ArrAt_in ((dat m c).toRRel isOut (leftIn m c)) w hin cfg0.N) _).mp (h w)).trans (A_eq m c w)

/-- An index of a block of the result is its row and column. -/
theorem eq_row (y : S1x10000x128.Idx) : y = ValueIdx.ix3 (0 : Fin 1) (y 1) (y 2) :=
  (ValueIdx.eq_ix3 y).trans (congrArg (fun a : Fin 1 => ValueIdx.ix3 a (y 1) (y 2)) (Subsingleton.elim (α := Fin 1) _ _))

/-- The blocks of the result lie at their batch. -/
theorem emb_0 (t : Fin cfg0.N) (y : S1x10000x128.Idx) : (((cfg0.win 6).blk t).view.emb y 0 : Fin 4) = t :=
  Fin.ext (by idx_bounds y; blk_simp [index_6])
theorem emb_1 (t : Fin cfg0.N) (y : S1x10000x128.Idx) : (((cfg0.win 6).blk t).view.emb y 1 : Fin 10000) = y 1 :=
  Fin.ext (by idx_bounds y; blk_simp [index_6])
theorem emb_2 (t : Fin cfg0.N) (y : S1x10000x128.Idx) : (((cfg0.win 6).blk t).view.emb y 2 : Fin 128) = y 2 :=
  Fin.ext (by idx_bounds y; blk_simp [index_6])

/-- The result array: at batch `b` it is what point `b` left. -/
theorem result_of (c : Dev nD) {r : PUnit × MemSt nD τ sig (Elt F)}
    (h : RDat.FramePost cfg0 (fun c => (dat m c).toRRel isOut (leftIn m c)) (V m) r) (i : S4x10000x128.Idx) :
    ∃ X, Left m c (i 0) X ∧ r.2.mem ((c.tc : Thread nD τ).loc main_v0) i = X (ValueIdx.ix3 (0 : Fin 1) (i 1) (i 2)) := by
  obtain ⟨after, hL, hA⟩ := h.exists_exact c
  have e := hA 6
  have hG := Dat.arrAt_forall_of_covers (((dat m c).toRRel isOut (leftIn m c)).withAfter after) 6
    (fun (i : S4x10000x128.Idx) v => ∃ X, Left m c (i 0) X ∧ v = X (ValueIdx.ix3 (0 : Fin 1) (i 1) (i 2))) (by decide +kernel)
    (fun t hf y => ?_) i
  · rw [← e] at hG; exact hG
  · have hl : Left m c t (after 6 t) := (dat m c).toRRel_leaves (w := 6) rfl (hL 6 t hf)
    refine ⟨after 6 t, ?_, ?_⟩
    · rw [emb_0 t y]; exact hl
    · blk_simp
      refine congrArg (after 6 t) ?_
      rw [emb_1 t y, emb_2 t y]
      exact eq_row y

/-- THE RUN: the result array is what the points left, and the arguments are unchanged. -/
theorem run : θ_run defs (onTc (τ := τ) (main (F := F))) ⟨m, fun _ => 0, ρ⟩ (fun r => ∀ c : Dev nD,
      (∀ i : S4x10000x128.Idx, ∃ X, Left m c (i 0) X
          ∧ r.2.mem ((c.tc : Thread nD τ).loc main_v0) i = X (ValueIdx.ix3 (0 : Fin 1) (i 1) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h => fun c => ⟨result_of m c h.1,
    (arg_in m c 0 (by decide) (h.1 c).1).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (arg_in m c 1 (by decide) (h.1 c).1).trans (V_main_arg3 m c),
    (arg_in m c 2 (by decide) (h.1 c).1).trans (V_main_arg4 m c),
    (arg_in m c 3 (by decide) (h.1 c).1).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    (arg_in m c 5 (by decide) (h.1 c).1).trans (V_main_arg11 m c)⟩) (run_main m ρ)

end Cert.KernelIdealRun
-- ==== Proof.Layer.lean ====
/- The layer over the reals: what one row and its chain of ancestors give. Nothing here is of a program. -/
module

public import Idealize.ShloMosaic.PureOps.Ideal
public import Mathlib.Analysis.SpecialFunctions.Pow.Real
public import Mathlib.Tactic.Ring
public import Mathlib.Tactic.FieldSimp
public import Mathlib.Tactic.Positivity
public import Mathlib.Tactic.Linarith

@[expose] public section

noncomputable section

namespace Cert.Layer

open Finset

/-- The weights, as real numbers; the output weights may be infinite. -/
structure Weights where
  win : Fin 128 → Fin 512 → ℝ
  wxp : Fin 256 → Fin 10 → ℝ
  wdt : Fin 8 → Fin 256 → ℝ
  bdt : Fin 256 → ℝ
  wout : Fin 256 → Fin 128 → EReal

variable (W : Weights)

/-- The inner channel `i` of a row. -/
def inner (x : Fin 128 → ℝ) (i : Fin 256) : ℝ := ∑ k, x k * W.win k ⟨i.val, by omega⟩

/-- The gate's channel `i` of a row. -/
def gate (x : Fin 128 → ℝ) (i : Fin 256) : ℝ := ∑ k, x k * W.win k ⟨256 + i.val, by omega⟩

/-- The projected column `r` of a row. -/
def proj (x : Fin 128 → ℝ) (r : Fin 10) : ℝ := ∑ i, inner W x i * W.wxp i r

/-- The step before its softplus. -/
def step (x : Fin 128 → ℝ) (i : Fin 256) : ℝ := ∑ r : Fin 8, proj W x ⟨r.val, by omega⟩ * W.wdt r i + W.bdt i

/-- Softplus. -/
def softplus (u : ℝ) : ℝ := Real.log (1 + Real.exp u)

/-- How much of the parent's state a row keeps. -/
def decay (x : Fin 128 → ℝ) (i : Fin 256) : ℝ := Real.exp (-softplus (step W x i))

/-- What a row adds to the state. -/
def drive (x : Fin 128 → ℝ) (i : Fin 256) : ℝ := softplus (step W x i) * proj W x 8 * inner W x i

/-- The state of node `n`: the root's is its drive, every other node's its parent's state decayed, plus its drive. -/
def state (X : ℕ → Fin 128 → ℝ) (n : ℕ) (i : Fin 256) : ℝ :=
  if n = 0 then drive W (X 0) i else decay W (X n) i * state X ((n - 1) / 16) i + drive W (X n) i
termination_by n

theorem state_zero (X : ℕ → Fin 128 → ℝ) (i : Fin 256) : state W X 0 i = drive W (X 0) i := by
  rw [state, if_pos rfl]

theorem state_pos (X : ℕ → Fin 128 → ℝ) (n : ℕ) (i : Fin 256) (h : n ≠ 0) :
    state W X n i = decay W (X n) i * state W X ((n - 1) / 16) i + drive W (X n) i := by
  conv_lhs => rw [state, if_neg h]

/-- The row before the norm, from its state. -/
def mix (x : Fin 128 → ℝ) (h : Fin 256 → ℝ) (i : Fin 256) : ℝ := h i * proj W x 9 + inner W x i

/-- The mean of a row of channels. -/
def mean (y : Fin 256 → ℝ) : ℝ := (∑ i, y i) / 256

/-- The variance of a row of channels. -/
def var (y : Fin 256 → ℝ) : ℝ := (∑ i, (y i - mean y) * (y i - mean y)) / 256

/-- `z` through `z / (1 + exp (-z))`. -/
def silu (z : ℝ) : ℝ := z / (1 + Real.exp (-z))

/-- The row normed, gated and projected out; `ε` the norm's small constant. -/
def finish (ε : ℝ) (y z : Fin 256 → ℝ) (j : Fin 128) : EReal :=
  ∑ i, (((y i - mean y) / Real.sqrt (var y + ε) * z i : ℝ) : EReal) * W.wout i j

/-- The layer's output at a row with state `h`. -/
def output (ε : ℝ) (x : Fin 128 → ℝ) (h : Fin 256 → ℝ) (j : Fin 128) : EReal :=
  finish W ε (mix W x h) (fun i => silu (gate W x i)) j

/-- The fused weights' step columns, -/
def fusedStep (k : Fin 128) (i : Fin 256) : ℝ :=
  ∑ r : Fin 8, (∑ i', W.win k ⟨i'.val, by omega⟩ * W.wxp (i' : Fin 256) ⟨r.val, by omega⟩) * W.wdt r i

/-- and their projected columns. -/
def fusedProj (k : Fin 128) (r : Fin 10) : ℝ := ∑ i' : Fin 256, W.win k ⟨i'.val, by omega⟩ * W.wxp i' r

/-- A row through the fused projected columns is the row projected. -/
theorem sum_fusedProj (x : Fin 128 → ℝ) (r : Fin 10) : ∑ k, x k * fusedProj W k r = proj W x r := by
  unfold fusedProj proj inner
  simp only [Finset.mul_sum, Finset.sum_mul]
  rw [Finset.sum_comm]
  exact Finset.sum_congr rfl fun i _ => Finset.sum_congr rfl fun k _ => by ring

/-- A row through the fused step columns is the step, but for the bias. -/
theorem sum_fusedStep (x : Fin 128 → ℝ) (i : Fin 256) : ∑ k, x k * fusedStep W k i + W.bdt i = step W x i := by
  unfold step
  congr 1
  simp only [← sum_fusedProj]
  unfold fusedStep fusedProj
  simp only [Finset.mul_sum, Finset.sum_mul]
  rw [Finset.sum_comm]
  exact Finset.sum_congr rfl fun r _ => Finset.sum_congr rfl fun k _ => Finset.sum_congr rfl fun i _ => by ring

/-- The mean of the squares less the square of the mean is the variance. -/
theorem meanSq_sub (y : Fin 256 → ℝ) : (∑ i, y i * y i) / 256 - mean y * mean y = var y := by
  unfold var
  have h : ∑ i, y i = 256 * mean y := by unfold mean; ring
  have e : ∀ i, (y i - mean y) * (y i - mean y) = y i * y i - 2 * mean y * y i + mean y * mean y := fun i => by ring
  simp only [e, Finset.sum_add_distrib, Finset.sum_sub_distrib, ← Finset.mul_sum, h, Finset.sum_const, Finset.card_univ, Fintype.card_fin]
  simp
  ring

theorem var_nonneg (y : Fin 256 → ℝ) : 0 ≤ var y :=
  div_nonneg (Finset.sum_nonneg fun i _ => mul_self_nonneg _) (by norm_num)

/-- `exp (-softplus u)` is the logistic function of `-u`. -/
theorem exp_neg_softplus (u : ℝ) : Real.exp (-softplus u) = 1 / (1 + Real.exp u) := by
  unfold softplus
  rw [Real.exp_neg, Real.exp_log (by positivity), one_div]

/-- The kernel's form of it, by the sign of `u`. -/
theorem decay_form (u : ℝ) :
    1 / (1 + Real.exp (-|u|)) * (if 0 ≤ u then Real.exp (-|u|) else 1) = Real.exp (-softplus u) := by
  rw [exp_neg_softplus]
  split
  case isTrue h =>
    rw [abs_of_nonneg h, Real.exp_neg]
    have := Real.exp_pos u
    field_simp
    ring
  case isFalse h => rw [abs_of_neg (not_le.mp h), neg_neg, mul_one]

/-- The reference's form of softplus: `max u 0 + log (1 + exp (-|u|))`. -/
theorem softplus_form (u : ℝ) : max u 0 + Real.log (1 + Real.exp (-|u|)) = softplus u := by
  unfold softplus
  rcases le_total 0 u with h | h
  · rw [max_eq_left h, abs_of_nonneg h]
    have hp := Real.exp_pos u
    rw [show 1 + Real.exp u = Real.exp u * (1 + Real.exp (-u)) by rw [Real.exp_neg]; field_simp; ring,
      Real.log_mul (by positivity) (by positivity), Real.log_exp]
  · rw [max_eq_right h, abs_of_nonpos h, neg_neg, zero_add]

end Cert.Layer
-- ==== Proof.Scalars.lean ====
/- The scalar operations on extended reals at real arguments, and the constants' values. -/
module

public import Idealize.ShloMosaic.PureOps.Ideal
public import Idealize.ShloMosaic.Lib.IdealHost
public import proofs.«01_k».proof.Proof.Layer

@[expose] public section

noncomputable section

namespace Cert.Scalars

open Idealize.ShloMosaic Cert.Layer

/-- A sum of reals is their real sum. -/
theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- Dividing a real by a real that is not zero. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The exponential of a real. -/
theorem exp_coe (a : ℝ) : Ideal.exp (a : EReal) = ((Real.exp a : ℝ) : EReal) := rfl

/-- The power of two at a real over `-log 2` is the exponential of its negative. -/
theorem exp2_coe (a : ℝ) : Ideal.exp2 ((a : EReal) * ((-((Real.log 2)⁻¹) : ℝ) : EReal)) = ((Real.exp (-a) : ℝ) : EReal) := by
  rw [← EReal.coe_mul]
  show ((Real.rpow 2 _ : ℝ) : EReal) = _
  congr 1
  refine (Real.rpow_def_of_pos (by norm_num) _).trans ?_
  congr 1
  have := (Real.log_pos (by norm_num : (1 : ℝ) < 2)).ne'
  field_simp

/-- The logarithm of a positive real. -/
theorem log_coe (a : ℝ) (h : 0 < a) : Ideal.log (a : EReal) = ((Real.log a : ℝ) : EReal) := by
  show (if a ≤ 0 then ⊥ else ((Real.log a : ℝ) : EReal)) = _
  rw [if_neg (not_le.mpr h)]

/-- The logarithm of one more than a real that is not negative. -/
theorem log1p_coe (a : ℝ) (h : 0 ≤ a) : Ideal.log1p (a : EReal) = ((Real.log (1 + a) : ℝ) : EReal) := by
  unfold Ideal.log1p
  rw [show (1 : EReal) + (a : EReal) = ((1 + a : ℝ) : EReal) by rw [EReal.coe_add]; rfl, log_coe _ (by linarith)]

/-- The square root of a real that is not negative. -/
theorem sqrt_coe (a : ℝ) (h : 0 ≤ a) : Ideal.sqrt (a : EReal) = ((Real.sqrt a : ℝ) : EReal) := by
  show (if a < 0 then ⊥ else ((Real.sqrt a : ℝ) : EReal)) = _
  rw [if_neg (not_lt.mpr h)]

/-- The reciprocal square root of a positive real. -/
theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

/-- The larger of two reals. -/
theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

/-- The larger of a real and its negative is its absolute value. -/
theorem abs_coe (a : ℝ) : max (a : EReal) (-(a : EReal)) = ((|a| : ℝ) : EReal) := by
  rw [← EReal.coe_neg, max_coe]; rfl

/-- The constant 256. -/
theorem ofBits_256 : Ideal.ofBits .f32 0x43800000#32 = ((256 : ℝ) : EReal) := by
  simp [Ideal.ofBits, Ideal.ieee, -EReal.coe_mul]; norm_num

/-- The norm's small constant. -/
def eps : ℝ := (Ideal.ofBits .f32 0x3727C5AC#32).toReal

theorem eps_exists : ∃ e : ℝ, 0 < e ∧ Ideal.ofBits .f32 0x3727C5AC#32 = (e : EReal) := by
  refine ⟨_, ?_, by simp [Ideal.ofBits, Ideal.ieee, -EReal.coe_mul]; rfl⟩
  norm_num

theorem ofBits_eps : Ideal.ofBits .f32 0x3727C5AC#32 = (eps : EReal) := by
  obtain ⟨e, -, h⟩ := eps_exists
  unfold eps; rw [h, EReal.toReal_coe]

theorem eps_pos : 0 < eps := by
  obtain ⟨e, he, h⟩ := eps_exists
  unfold eps; rw [h, EReal.toReal_coe]; exact he

end Cert.Scalars
-- ==== Proof.Forms.lean ====
/- The kernel's forms of a row's step, decay, gate and norm, at real arguments. -/
module

public import proofs.«01_k».proof.Proof.Gen.KernelIdeal.Skeleton
public import proofs.«01_k».proof.Proof.Scalars
public import Idealize.ShloMosaic.Lib.Pointwise

@[expose] public section

noncomputable section

namespace Cert.Forms

open Idealize.ShloMosaic Cert.Layer Cert.Scalars Cert.KernelIdeal

/-- The named constants' values. -/
theorem named_neg_log2e : (Named.named κ "neg_log2e" 0xBFB8AA3B#32 : Ideal .f32) = ((-((Real.log 2)⁻¹) : ℝ) : EReal) :=
  IdealRules.named_const.ideal_named_scalar _ _ _ _ rfl
theorem named_log2e : (Named.named κ "log2e" 0x3FB8AA3B#32 : Ideal .f32) = (((Real.log 2)⁻¹ : ℝ) : EReal) :=
  IdealRules.named_const.ideal_named_scalar _ _ _ _ rfl
theorem named_neg_ln2 : (Named.named κ "neg_ln2" 0xBF317218#32 : Ideal .f32) = ((-(Real.log 2) : ℝ) : EReal) :=
  IdealRules.named_const.ideal_named_scalar _ _ _ _ rfl

/-- A contraction of reals. -/
theorem dot_coe {K : ℕ} {a b : Fin K → EReal} (f g : Fin K → ℝ) (ha : ∀ k, a k = (f k : EReal)) (hb : ∀ k, b k = (g k : EReal)) :
    ∑ k, a k * b k = ((∑ k, f k * g k : ℝ) : EReal) := by
  rw [← coe_sum]
  exact Finset.sum_congr rfl fun k _ => by rw [ha, hb, EReal.coe_mul]

/-- One more than a positive real, under one. -/
theorem recip_form (e : ℝ) (h : 0 < e) : Ideal.div 1 (1 + (e : EReal)) = ((1 / (1 + e) : ℝ) : EReal) := by
  rw [← div_coe _ _ (by positivity), EReal.coe_add]; rfl

/-- The kernel's power of two is an exponential. -/
theorem exp2_form (a : ℝ) :
    (FloatOps.exp2 ((a : EReal) * (Named.named κ "neg_log2e" 0xBFB8AA3B#32 : Ideal .f32) : Ideal .f32) : Ideal .f32) = ((Real.exp (-a) : ℝ) : EReal) := by
  rw [named_neg_log2e]; exact exp2_coe a

/-- The gate. -/
theorem silu_form (z : ℝ) :
    Ideal.div (z : EReal) (1 + (FloatOps.exp2 ((z : EReal) * (Named.named κ "neg_log2e" 0xBFB8AA3B#32 : Ideal .f32) : Ideal .f32) : Ideal .f32))
      = ((silu z : ℝ) : EReal) := by
  rw [exp2_form]
  unfold silu
  rw [← div_coe _ _ (by positivity), EReal.coe_add]; rfl

/-- The exponential of minus the step's size. -/
theorem en_form (u : ℝ) :
    (FloatOps.exp2 ((FloatOps.absf ((u : EReal) : Ideal .f32) : Ideal .f32) * (Named.named κ "neg_log2e" 0xBFB8AA3B#32 : Ideal .f32) : Ideal .f32) : Ideal .f32)
      = ((Real.exp (-|u|) : ℝ) : EReal) := by
  rw [show (FloatOps.absf ((u : EReal) : Ideal .f32) : Ideal .f32) = ((|u| : ℝ) : EReal) from abs_coe u]
  exact exp2_form _

/-- The decay, from the exponential, its reciprocal and the step's sign. -/
theorem decay_coe (u : ℝ) :
    ((1 / (1 + Real.exp (-|u|)) : ℝ) : EReal) * (if (0 : EReal) ≤ (u : EReal) then ((Real.exp (-|u|) : ℝ) : EReal) else 1)
      = ((Real.exp (-softplus u) : ℝ) : EReal) := by
  rw [← decay_form, EReal.coe_mul]
  congr 1
  by_cases h : 0 ≤ u
  · rw [if_pos h, if_pos (by exact_mod_cast h)]
  · rw [if_neg h, if_neg (by exact_mod_cast h)]; rfl

/-- The step, back from the decay's logarithm. -/
theorem dt_coe (u : ℝ) :
    Ideal.log ((Real.exp (-softplus u) : ℝ) : EReal) * (Named.named κ "log2e" 0x3FB8AA3B#32 : Ideal .f32)
      * (Named.named κ "neg_ln2" 0xBF317218#32 : Ideal .f32) = ((softplus u : ℝ) : EReal) := by
  rw [log_coe _ (Real.exp_pos _), Real.log_exp, named_log2e, named_neg_ln2, ← EReal.coe_mul, ← EReal.coe_mul]
  congr 1
  have := (Real.log_pos (by norm_num : (1 : ℝ) < 2)).ne'
  field_simp

/-- The mean of a row of reals. -/
theorem mean_coe {Y : Fin 256 → EReal} (y : Fin 256 → ℝ) (hy : ∀ x, Y x = (y x : EReal)) :
    Ideal.div (∑ x, Y x) (Ideal.ofBits .f32 0x43800000#32) = ((mean y : ℝ) : EReal) := by
  simp only [hy]
  rw [coe_sum, ofBits_256, div_coe _ _ (by norm_num)]; rfl

/-- The mean of its squares. -/
theorem meanSq_coe {Y : Fin 256 → EReal} (y : Fin 256 → ℝ) (hy : ∀ x, Y x = (y x : EReal)) :
    Ideal.div (∑ x, Y x * Y x) (Ideal.ofBits .f32 0x43800000#32) = (((∑ i, y i * y i) / 256 : ℝ) : EReal) := by
  rw [dot_coe y y hy hy, ofBits_256, div_coe _ _ (by norm_num)]

/-- The row normed, gated and projected out, in the kernel's form. -/
theorem finish_form (W : Weights) (j : Fin 128) {Y Z wo : Fin 256 → EReal} (y z : Fin 256 → ℝ)
    (hy : ∀ x, Y x = (y x : EReal)) (hz : ∀ x, Z x = (z x : EReal)) (hw : ∀ x, wo x = W.wout x j) :
    ∑ x, (Y x - Ideal.div (∑ x, Y x) (Ideal.ofBits .f32 0x43800000#32))
        * Ideal.rsqrt (Ideal.div (∑ x, Y x * Y x) (Ideal.ofBits .f32 0x43800000#32)
            - Ideal.div (∑ x, Y x) (Ideal.ofBits .f32 0x43800000#32) * Ideal.div (∑ x, Y x) (Ideal.ofBits .f32 0x43800000#32)
            + Ideal.ofBits .f32 0x3727C5AC#32) * Z x * wo x
      = finish W eps y z j := by
  rw [mean_coe y hy, meanSq_coe y hy, ofBits_eps, ← EReal.coe_mul, ← EReal.coe_sub, meanSq_sub, ← EReal.coe_add,
    rsqrt_coe _ (add_pos_of_nonneg_of_pos (var_nonneg y) eps_pos)]
  unfold finish
  refine Finset.sum_congr rfl fun x _ => ?_
  rw [hy, hz, hw, ← EReal.coe_sub, ← EReal.coe_mul, ← EReal.coe_mul, div_eq_mul_inv]

/-- The fused weights, as the layer's weights make them. -/
def FusedIs (W : Weights) (wf : Vec Ideal S128x770 .bf16) : Prop :=
  (∀ (k : Fin 128) (j : Fin 512), wf (ix2 k ⟨j.val, by omega⟩) = (W.win k j : EReal))
  ∧ (∀ (k : Fin 128) (i : Fin 256), wf (ix2 k ⟨512 + i.val, by omega⟩) = (fusedStep W k i : EReal))
  ∧ (∀ k : Fin 128, wf (ix2 k 768) = (fusedProj W k 8 : EReal))
  ∧ (∀ k : Fin 128, wf (ix2 k 769) = (fusedProj W k 9 : EReal))

/-- The bias row, as the layer's weights have it. -/
def BiasIs (W : Weights) (b : Vec Ideal S1x256 .f32) : Prop := ∀ i : Fin 256, b (ix2 0 i) = (W.bdt i : EReal)

/-- The output weights, as the layer's weights have them. -/
def OutIs (W : Weights) (wo : Vec Ideal S256x128 .bf16) : Prop := ∀ (i : Fin 256) (j : Fin 128), wo (ix2 i j) = W.wout i j

variable {W : Weights} {wf : Vec Ideal S128x770 .bf16} {b : Vec Ideal S1x256 .f32} {a : Fin 128 → EReal} {x : Fin 128 → ℝ}

/-- A real row through the fused weights: the inner channels, -/
theorem inner_coe (hw : FusedIs W wf) (ha : ∀ k, a k = (x k : EReal)) (i : Fin 256) :
    ∑ k, a k * wf (ix2 k ⟨i.val, by omega⟩) = ((inner W x i : ℝ) : EReal) :=
  dot_coe x _ ha fun k => hw.1 k ⟨i.val, by omega⟩

/-- the gate's channels, -/
theorem gate_coe (hw : FusedIs W wf) (ha : ∀ k, a k = (x k : EReal)) (i : Fin 256) :
    ∑ k, a k * wf (ix2 k ⟨256 + i.val, by omega⟩) = ((gate W x i : ℝ) : EReal) :=
  dot_coe x _ ha fun k => hw.1 k ⟨256 + i.val, by omega⟩

/-- the step with its bias, -/
theorem step_coe (hw : FusedIs W wf) (hb : BiasIs W b) (ha : ∀ k, a k = (x k : EReal)) (i : Fin 256) :
    ∑ k, a k * wf (ix2 k ⟨512 + i.val, by omega⟩) + b (ix2 0 i) = ((step W x i : ℝ) : EReal) := by
  rw [dot_coe x _ ha fun k => hw.2.1 k i, hb, ← EReal.coe_add, sum_fusedStep]

/-- and the two projected columns. -/
theorem proj8_coe (hw : FusedIs W wf) (ha : ∀ k, a k = (x k : EReal)) :
    ∑ k, a k * wf (ix2 k 768) = ((proj W x 8 : ℝ) : EReal) := by
  rw [dot_coe x _ ha hw.2.2.1, sum_fusedProj]
theorem proj9_coe (hw : FusedIs W wf) (ha : ∀ k, a k = (x k : EReal)) :
    ∑ k, a k * wf (ix2 k 769) = ((proj W x 9 : ℝ) : EReal) := by
  rw [dot_coe x _ ha hw.2.2.2, sum_fusedProj]

end Cert.Forms
-- ==== Proof.KernelRowsA.lean ====
/- What the kernel's first rows hold: the first four levels' states, and the result's rows up to the fourth level. -/
module

public import proofs.«01_k».proof.Proof.KernelIdealBody
public import proofs.«01_k».proof.Proof.Forms

@[expose] public section

set_option maxRecDepth 16384

noncomputable section

namespace Cert.KernelRowsA

open Cert.KernelIdeal Cert.KernelIdeal.Gen Cert.KernelIdealBody
open Idealize.ShloMosaic Cert.Layer Cert.Scalars Cert.Forms

variable {W : Weights} {wf : Vec Ideal S128x770 .bf16} {b : Vec Ideal S1x256 .f32} {wo : Vec Ideal S256x128 .bf16}
  {v : Vec Ideal S4384x128 .bf16}

section Row

variable {x : Fin 128 → ℝ} {r : Fin 4384}

/-- The inner channels of a real row, -/
theorem inner_row (hw : FusedIs W wf) (hr : ∀ k, v (ix2 r k) = (x k : EReal)) (i : Fin 256) :
    k0_pay9 v wf (ix2 r i) = ((inner W x i : ℝ) : EReal) := by
  pointwise [k0_pay9, k0_pay8]
  exact inner_coe hw hr i

/-- its gate, -/
theorem gate_row (hw : FusedIs W wf) (hr : ∀ k, v (ix2 r k) = (x k : EReal)) (i : Fin 256) :
    k0_pay10 v wf (ix2 r i) = ((silu (gate W x i) : ℝ) : EReal) := by
  have h : k0_pay8 v wf (ix2 r ⟨256 + i.val, by omega⟩) = ((gate W x i : ℝ) : EReal) := by
    pointwise [k0_pay8]
    exact gate_coe hw hr i
  pointwise [k0_pay10]
  rw [h]
  exact silu_form _

/-- its step, -/
theorem step_row (hw : FusedIs W wf) (hb : BiasIs W b) (hr : ∀ k, v (ix2 r k) = (x k : EReal)) (i : Fin 256) :
    k0_pay11 v wf b (ix2 r i) = ((step W x i : ℝ) : EReal) := by
  pointwise [k0_pay11, k0_pay8]
  exact step_coe hw hb hr i

/-- its projected columns, -/
theorem proj8_row (hw : FusedIs W wf) (hr : ∀ k, v (ix2 r k) = (x k : EReal)) :
    k0_pay12 v wf (ix2 r 0) = ((proj W x 8 : ℝ) : EReal) := by
  pointwise [k0_pay12, k0_pay8]
  exact proj8_coe hw hr
theorem proj9_row (hw : FusedIs W wf) (hr : ∀ k, v (ix2 r k) = (x k : EReal)) :
    k0_pay13 v wf (ix2 r 0) = ((proj W x 9 : ℝ) : EReal) := by
  pointwise [k0_pay13, k0_pay8]
  exact proj9_coe hw hr

/-- the exponential of its step's size and that exponential's reciprocal form, -/
theorem en_row (hw : FusedIs W wf) (hb : BiasIs W b) (hr : ∀ k, v (ix2 r k) = (x k : EReal)) (i : Fin 256) :
    k0_pay14 v wf b (ix2 r i) = ((Real.exp (-|step W x i|) : ℝ) : EReal) := by
  pointwise [k0_pay14]
  rw [step_row hw hb hr]
  exact en_form _
theorem recip_row (hw : FusedIs W wf) (hb : BiasIs W b) (hr : ∀ k, v (ix2 r k) = (x k : EReal)) (i : Fin 256) :
    k0_pay15 v wf b (ix2 r i) = ((1 / (1 + Real.exp (-|step W x i|)) : ℝ) : EReal) := by
  pointwise [k0_pay15]
  rw [en_row hw hb hr]
  exact recip_form _ (Real.exp_pos _)

/-- its decay, -/
theorem decay_row (hw : FusedIs W wf) (hb : BiasIs W b) (hr : ∀ k, v (ix2 r k) = (x k : EReal)) (i : Fin 256) :
    k0_pay17 (k0_pay14 v wf b) (k0_pay15 v wf b) (k0_pay16 v wf b) (ix2 r i) = ((decay W x i : ℝ) : EReal) := by
  pointwise [k0_pay17, k0_pay16]
  rw [en_row hw hb hr, recip_row hw hb hr, step_row hw hb hr]
  exact decay_coe _

/-- and its drive. -/
theorem drive_row (hw : FusedIs W wf) (hb : BiasIs W b) (hr : ∀ k, v (ix2 r k) = (x k : EReal)) (i : Fin 256) :
    k0_pay18 (k0_pay9 v wf) (k0_pay12 v wf) (k0_pay14 v wf b) (k0_pay15 v wf b) (k0_pay16 v wf b) (ix2 r i)
      = ((drive W x i : ℝ) : EReal) := by
  have h := decay_row hw hb hr i
  pointwise [k0_pay18]
  rw [h, proj8_row hw hr, inner_row hw hr]
  unfold decay drive
  rw [EReal.coe_mul, EReal.coe_mul, ← dt_coe]

end Row

section Levels

variable {X : ℕ → Fin 128 → ℝ}

/-- Node `n`'s row stands at row `n + 15`. -/
def HoldsA (v : Vec Ideal S4384x128 .bf16) (X : ℕ → Fin 128 → ℝ) : Prop :=
  ∀ (r : Fin 4384) (n : ℕ), r.val = n + 15 → ∀ k, v (ix2 r k) = (X n k : EReal)

/-- The first two levels after the root. -/
theorem level1 (hw : FusedIs W wf) (hb : BiasIs W b) (hv : HoldsA v X) (r : Fin 16) (i : Fin 256) :
    k0_pay19 (k0_pay9 v wf) (k0_pay12 v wf) (k0_pay14 v wf b) (k0_pay15 v wf b) (k0_pay16 v wf b) (ix2 r i)
      = ((state W X (r.val + 1) i : ℝ) : EReal) := by
  rw [state_pos _ _ _ _ (by omega), show (r.val + 1 - 1) / 16 = 0 by omega, state_zero]
  pointwise [k0_pay19]
  rw [decay_row (r := ⟨16 + r.val, by omega⟩) hw hb (hv _ (r.val + 1) (by simp; omega)), drive_row (r := ⟨16 + r.val, by omega⟩) hw hb (hv _ (r.val + 1) (by simp; omega)),
    drive_row (r := 15) hw hb (hv _ 0 rfl)]
  rw [← EReal.coe_mul, ← EReal.coe_add]

theorem level2 (hw : FusedIs W wf) (hb : BiasIs W b) (hv : HoldsA v X) (r : Fin 256) (i : Fin 256) :
    k0_pay20 (k0_pay9 v wf) (k0_pay12 v wf) (k0_pay14 v wf b) (k0_pay15 v wf b) (k0_pay16 v wf b) (ix2 r i)
      = ((state W X (r.val + 17) i : ℝ) : EReal) := by
  rw [state_pos _ _ _ _ (by omega), show (r.val + 17 - 1) / 16 = r.val / 16 + 1 by omega]
  pointwise [k0_pay20]
  rw [decay_row (r := ⟨32 + r.val, by omega⟩) hw hb (hv _ (r.val + 17) (by simp; omega)), drive_row (r := ⟨32 + r.val, by omega⟩) hw hb (hv _ (r.val + 17) (by simp; omega)),
    level1 hw hb hv]
  rw [← EReal.coe_mul, ← EReal.coe_add]

/-- The last level of the first rows. -/
theorem level3_state (hw : FusedIs W wf) (hb : BiasIs W b) (hv : HoldsA v X) (r : Fin 4096) (i : Fin 256) :
    level3 v wf b (ix2 r i) = ((state W X (r.val + 273) i : ℝ) : EReal) := by
  rw [state_pos _ _ _ _ (by omega), show (r.val + 273 - 1) / 16 = r.val / 16 + 17 by omega]
  pointwise [level3, k0_pay21]
  rw [decay_row (r := ⟨288 + r.val, by omega⟩) hw hb (hv _ (r.val + 273) (by simp; omega)), drive_row (r := ⟨288 + r.val, by omega⟩) hw hb (hv _ (r.val + 273) (by simp; omega)),
    level2 hw hb hv]
  rw [← EReal.coe_mul, ← EReal.coe_add]

/-- The row before the norm. -/
theorem mix_row (hw : FusedIs W wf) (hb : BiasIs W b) (hv : HoldsA v X) (n : Fin 4369) (r : Fin 4384) (hr : r.val = n.val + 15) (i : Fin 256) :
    k0_pay22 (k0_pay9 v wf) (k0_pay12 v wf) (k0_pay13 v wf) (k0_pay14 v wf b) (k0_pay15 v wf b) (k0_pay16 v wf b) (ix2 r i)
      = ((mix W (X n) (state W X n) i : ℝ) : EReal) := by
  have hx := hv r n hr
  unfold mix
  rw [EReal.coe_add, EReal.coe_mul, ← proj9_row hw hx, ← inner_row hw hx]
  pointwise [k0_pay22]
  congr 2
  have h3 := level3_state hw hb hv
  unfold level3 at h3
  split
  case isTrue h =>
    obtain rfl : n = 0 := Fin.ext (by simp; omega)
    rw [drive_row hw hb (hv r 0 (by simpa using hr))]
    simp [state_zero]
  case isFalse h =>
    split
    case isTrue h' => rw [level1 hw hb hv]; congr 2; simp; omega
    case isFalse h' =>
      split
      case isTrue h'' => rw [level2 hw hb hv]; congr 2; simp; omega
      case isFalse h'' => rw [h3]; congr 2; simp; omega

/-- The result's rows. -/
theorem rowsA_output (hw : FusedIs W wf) (hb : BiasIs W b) (ho : OutIs W wo) (hv : HoldsA v X) (n : Fin 4369) (j : Fin 128) :
    rowsA v wf b wo (ix3 0 n j) = output W eps (X n) (state W X n) j := by
  have hr : ((⟨15 + n.val, by omega⟩ : Fin 4384)).val = n.val + 15 := by simp; omega
  pointwise [rowsA, k0_pay25, k0_pay23, k0_pay24]
  exact finish_form W j _ _ (mix_row hw hb hv n _ hr) (gate_row hw (hv _ n hr)) (fun i => ho i j)

end Levels

end Cert.KernelRowsA
-- ==== Proof.KernelRowsBC.lean ====
/- What the kernel's two stages hold: the result's rows of the last level, each from its parent's state in the level above. -/
module

public import proofs.«01_k».proof.Proof.KernelIdealBody
public import proofs.«01_k».proof.Proof.Forms

@[expose] public section

set_option maxRecDepth 16384

noncomputable section

namespace Cert.KernelRowsBC

open Cert.KernelIdeal Cert.KernelIdeal.Gen Cert.KernelIdealBody
open Idealize.ShloMosaic Cert.Layer Cert.Scalars Cert.Forms

variable {W : Weights} {wf : Vec Ideal S128x770 .bf16} {b : Vec Ideal S1x256 .f32} {wo : Vec Ideal S256x128 .bf16}
  {v : Vec Ideal S2816x128 .bf16} {x : Fin 128 → ℝ} {r : Fin 2816}

/-- The sum a row makes of its parent's state, from the parts. -/
theorem mix_coe {D H E C I : EReal} (X : ℕ → Fin 128 → ℝ) (n : ℕ) (hn : n ≠ 0) (i : Fin 256)
    (hD : D = ((decay W (X n) i : ℝ) : EReal)) (hH : H = ((state W X ((n - 1) / 16) i : ℝ) : EReal))
    (hE : E = ((drive W (X n) i : ℝ) : EReal)) (hC : C = ((proj W (X n) 9 : ℝ) : EReal)) (hI : I = ((inner W (X n) i : ℝ) : EReal)) :
    (D * H + E) * C + I = ((mix W (X n) (state W X n) i : ℝ) : EReal) := by
  unfold mix
  rw [state_pos _ _ _ _ hn, hD, hH, hE, hC, hI, ← EReal.coe_mul, ← EReal.coe_add, ← EReal.coe_mul, ← EReal.coe_add]

/-- The first stage: the inner channels of a real row, -/
theorem innerB (hw : FusedIs W wf) (hr : ∀ k, v (ix2 r k) = (x k : EReal)) (i : Fin 256) :
    k0_pay27 v wf (ix2 r i) = ((inner W x i : ℝ) : EReal) := by
  pointwise [k0_pay27, k0_pay26]
  exact inner_coe hw hr i

/-- its gate, -/
theorem gateB (hw : FusedIs W wf) (hr : ∀ k, v (ix2 r k) = (x k : EReal)) (i : Fin 256) :
    k0_pay28 v wf (ix2 r i) = ((silu (gate W x i) : ℝ) : EReal) := by
  have h : k0_pay26 v wf (ix2 r ⟨256 + i.val, by omega⟩) = ((gate W x i : ℝ) : EReal) := by
    pointwise [k0_pay26]
    exact gate_coe hw hr i
  pointwise [k0_pay28]
  rw [h]
  exact silu_form _

/-- its step, -/
theorem stepB (hw : FusedIs W wf) (hb : BiasIs W b) (hr : ∀ k, v (ix2 r k) = (x k : EReal)) (i : Fin 256) :
    k0_pay29 v wf b (ix2 r i) = ((step W x i : ℝ) : EReal) := by
  pointwise [k0_pay29, k0_pay26]
  exact step_coe hw hb hr i

/-- its projected columns, -/
theorem proj8B (hw : FusedIs W wf) (hr : ∀ k, v (ix2 r k) = (x k : EReal)) :
    k0_pay30 v wf (ix2 r 0) = ((proj W x 8 : ℝ) : EReal) := by
  pointwise [k0_pay30, k0_pay26]
  exact proj8_coe hw hr
theorem proj9B (hw : FusedIs W wf) (hr : ∀ k, v (ix2 r k) = (x k : EReal)) :
    k0_pay31 v wf (ix2 r 0) = ((proj W x 9 : ℝ) : EReal) := by
  pointwise [k0_pay31, k0_pay26]
  exact proj9_coe hw hr

/-- and the exponential of its step's size and that exponential's reciprocal form. -/
theorem enB (hw : FusedIs W wf) (hb : BiasIs W b) (hr : ∀ k, v (ix2 r k) = (x k : EReal)) (i : Fin 256) :
    k0_pay32 v wf b (ix2 r i) = ((Real.exp (-|step W x i|) : ℝ) : EReal) := by
  pointwise [k0_pay32]
  rw [stepB hw hb hr]
  exact en_form _
theorem recipB (hw : FusedIs W wf) (hb : BiasIs W b) (hr : ∀ k, v (ix2 r k) = (x k : EReal)) (i : Fin 256) :
    k0_pay33 v wf b (ix2 r i) = ((1 / (1 + Real.exp (-|step W x i|)) : ℝ) : EReal) := by
  pointwise [k0_pay33]
  rw [enB hw hb hr]
  exact recip_form _ (Real.exp_pos _)

/-- The second stage: the inner channels of a real row, -/
theorem innerC (hw : FusedIs W wf) (hr : ∀ k, v (ix2 r k) = (x k : EReal)) (i : Fin 256) :
    k0_pay38 v wf (ix2 r i) = ((inner W x i : ℝ) : EReal) := by
  pointwise [k0_pay38, k0_pay37]
  exact inner_coe hw hr i

/-- its gate, -/
theorem gateC (hw : FusedIs W wf) (hr : ∀ k, v (ix2 r k) = (x k : EReal)) (i : Fin 256) :
    k0_pay39 v wf (ix2 r i) = ((silu (gate W x i) : ℝ) : EReal) := by
  have h : k0_pay37 v wf (ix2 r ⟨256 + i.val, by omega⟩) = ((gate W x i : ℝ) : EReal) := by
    pointwise [k0_pay37]
    exact gate_coe hw hr i
  pointwise [k0_pay39]
  rw [h]
  exact silu_form _

/-- its projected columns, -/
theorem proj8C (hw : FusedIs W wf) (hr : ∀ k, v (ix2 r k) = (x k : EReal)) :
    k0_pay37 v wf (ix2 r 768) = ((proj W x 8 : ℝ) : EReal) := by
  pointwise [k0_pay37]
  exact proj8_coe hw hr
theorem proj9C (hw : FusedIs W wf) (hr : ∀ k, v (ix2 r k) = (x k : EReal)) :
    k0_pay40 v wf (ix2 r 0) = ((proj W x 9 : ℝ) : EReal) := by
  pointwise [k0_pay40, k0_pay37]
  exact proj9_coe hw hr

/-- its decay, -/
theorem decayC (hw : FusedIs W wf) (hb : BiasIs W b) (hr : ∀ k, v (ix2 r k) = (x k : EReal)) (i : Fin 256) :
    k0_pay41 v wf b (ix2 r i) = ((decay W x i : ℝ) : EReal) := by
  have h : k0_pay37 v wf (ix2 r ⟨512 + i.val, by omega⟩) + b (ix2 0 i) = ((step W x i : ℝ) : EReal) := by
    pointwise [k0_pay37]
    exact step_coe hw hb hr i
  pointwise [k0_pay41]
  rw [h, en_form, recip_form _ (Real.exp_pos _)]
  exact decay_coe _

/-- and its drive. -/
theorem driveC (hw : FusedIs W wf) (hb : BiasIs W b) (hr : ∀ k, v (ix2 r k) = (x k : EReal)) (i : Fin 256) :
    k0_pay42 v wf b (ix2 r i) = ((drive W x i : ℝ) : EReal) := by
  pointwise [k0_pay42]
  rw [decayC hw hb hr, proj8C hw hr, innerC hw hr]
  unfold decay drive
  rw [EReal.coe_mul, EReal.coe_mul, ← dt_coe]

variable {X : ℕ → Fin 128 → ℝ} {h3 : FVec Ideal S4096x256 .f32}

/-- The result's rows of the first stage, row `r` that of node `r + 4369`. -/
theorem rowsB_output (hw : FusedIs W wf) (hb : BiasIs W b) (ho : OutIs W wo)
    (hv : ∀ (r : Fin 2816) k, v (ix2 r k) = (X (r.val + 4369) k : EReal))
    (hh : ∀ (r : Fin 4096) i, h3 (ix2 r i) = (state W X (r.val + 273) i : EReal)) (r : Fin 2816) (j : Fin 128) :
    rowsB h3 v wf b wo (ix2 r j) = output W eps (X (r.val + 4369)) (state W X (r.val + 4369)) j := by
  have hd : ∀ i, k0_pay33 v wf b (ix2 r i) * (if (0 : EReal) ≤ k0_pay29 v wf b (ix2 r i) then k0_pay32 v wf b (ix2 r i) else 1)
      = ((decay W (X (r.val + 4369)) i : ℝ) : EReal) := fun i => by
    rw [recipB hw hb (hv r), stepB hw hb (hv r), enB hw hb (hv r)]
    exact decay_coe _
  pointwise [rowsB, k0_pay35, k0_pay34]
  refine finish_form W j (mix W (X (r.val + 4369)) (state W X (r.val + 4369))) _ (fun i => ?_) (gateB hw (hv r)) (fun i => ho i j)
  refine mix_coe X _ (by omega) i (hd i) ?_ ?_ (proj9B hw (hv r)) (innerB hw (hv r) i)
  · rw [hh]; congr 2; simp; omega
  · rw [hd, proj8B hw (hv r), innerB hw (hv r)]
    unfold decay drive
    rw [EReal.coe_mul, EReal.coe_mul, ← dt_coe]

/-- The result's rows of the second stage, row `r` that of node `r + 7185`. -/
theorem rowsC_output (hw : FusedIs W wf) (hb : BiasIs W b) (ho : OutIs W wo)
    (hv : ∀ (r : Fin 2816), r.val < 2815 → ∀ k, v (ix2 r k) = (X (r.val + 7185) k : EReal))
    (hh : ∀ (r : Fin 4096) i, h3 (ix2 r i) = (state W X (r.val + 273) i : EReal)) (r : Fin 2815) (j : Fin 128) :
    rowsC h3 v wf b wo (ix3 0 r j) = output W eps (X (r.val + 7185)) (state W X (r.val + 7185)) j := by
  have hr := hv ⟨r.val, by omega⟩ r.isLt
  pointwise [rowsC, k0_pay1, k0_pay43]
  refine finish_form W j (mix W (X (r.val + 7185)) (state W X (r.val + 7185))) _ (fun i => ?_) (gateC hw hr) (fun i => ho i j)
  refine mix_coe X _ (by omega) i (decayC hw hb hr i) ?_ (driveC hw hb hr i) (proj9C hw hr) (innerC hw hr i)
  rw [hh]; congr 2; simp; omega

end Cert.KernelRowsBC
-- ==== Proof.KernelOut.lean ====
/- The block of the result a grid point leaves, as the layer's output. -/
module

public import proofs.«01_k».proof.Proof.KernelRowsA
public import proofs.«01_k».proof.Proof.KernelRowsBC

@[expose] public section

set_option maxRecDepth 16384

noncomputable section

namespace Cert.KernelOut

open Cert.KernelIdeal Cert.KernelIdeal.Gen Cert.KernelIdealBody
open Idealize.ShloMosaic Cert.Layer Cert.Scalars Cert.Forms

variable {W : Weights} {x2 : Vec Ideal S128x512 .f32} {x3 : Vec Ideal S256x10 .f32} {x4 : Vec Ideal S8x256 .f32}

/-- The left columns, read. -/
theorem leftCols_at (h2 : ∀ k j, x2 (ix2 k j) = (W.win k j : EReal)) (k : Fin 128) (i : Fin 256) :
    leftCols x2 (ix2 k i) = (W.win k ⟨i.val, by omega⟩ : EReal) := by
  rw [← h2]
  exact congrArg x2 (funext (Fin.forall_fin_two.mpr ⟨Fin.ext (by simp), Fin.ext (by simp)⟩))

/-- The fused projection, read. -/
theorem projW_at (h2 : ∀ k j, x2 (ix2 k j) = (W.win k j : EReal)) (h3 : ∀ i r, x3 (ix2 i r) = (W.wxp i r : EReal))
    (k : Fin 128) (r : Fin 10) : k0_pay2 (leftCols x2) x3 (ix2 k r) = ((fusedProj W k r : ℝ) : EReal) := by
  pointwise [k0_pay2]
  exact dot_coe _ _ (fun i => leftCols_at h2 k i) (fun i => h3 i r)

/-- The fused weights are the layer's. -/
theorem fusedW_is (h2 : ∀ k j, x2 (ix2 k j) = (W.win k j : EReal)) (h3 : ∀ i r, x3 (ix2 i r) = (W.wxp i r : EReal))
    (h4 : ∀ r i, x4 (ix2 r i) = (W.wdt r i : EReal)) : FusedIs W (fusedW x2 x3 x4) := by
  refine ⟨fun k j => ?_, fun k i => ?_, fun k => ?_, fun k => ?_⟩
  · unfold fusedW
    rw [dif_pos (show ((ix2 k ⟨j.val, _⟩ : S128x770.Idx) 1).val < 512 from j.isLt)]
    pointwise [k0_pay3]
    exact h2 k j
  · unfold fusedW
    rw [dif_neg (show ¬ ((ix2 k ⟨512 + i.val, _⟩ : S128x770.Idx) 1).val < 512 by simp),
      dif_pos (show ((ix2 k ⟨512 + i.val, _⟩ : S128x770.Idx) 1).val < 768 by simp; omega)]
    have e : ix2 ((ix2 k (⟨512 + i.val, by omega⟩ : Fin 770) : S128x770.Idx) 0) (⟨((ix2 k (⟨512 + i.val, by omega⟩ : Fin 770) : S128x770.Idx) 1).val - 512, by simp⟩ : Fin 256) = ix2 k i :=
      congrArg _ (Fin.ext (by simp))
    refine (congrArg _ e).trans ?_
    pointwise [k0_pay4]
    exact dot_coe _ _ (fun r => projW_at h2 h3 k _) (fun r => h4 r i)
  · unfold fusedW
    rw [dif_neg (show ¬ ((ix2 k (768 : Fin 770) : S128x770.Idx) 1).val < 512 by simp),
      dif_neg (show ¬ ((ix2 k (768 : Fin 770) : S128x770.Idx) 1).val < 768 by simp)]
    refine Eq.trans (b := k0_pay5 (leftCols x2) x3 (ix2 k 0)) rfl ?_
    pointwise [k0_pay5]
    exact projW_at h2 h3 k _
  · unfold fusedW
    rw [dif_neg (show ¬ ((ix2 k (769 : Fin 770) : S128x770.Idx) 1).val < 512 by simp),
      dif_neg (show ¬ ((ix2 k (769 : Fin 770) : S128x770.Idx) 1).val < 768 by simp)]
    refine Eq.trans (b := k0_pay5 (leftCols x2) x3 (ix2 k 1)) rfl ?_
    pointwise [k0_pay5]
    exact projW_at h2 h3 k _

/-- The output weights are the layer's. -/
theorem out_is {x : Vec Ideal S256x128 .f32} (h : ∀ i j, x (ix2 i j) = W.wout i j) : OutIs W (k0_pay6 x) := fun i j => by
  pointwise [k0_pay6]
  exact h i j

/-- Rows stored into the block from row `o` on, read at one of them, -/
theorem put_hit {α : Type} (d : S1x10000x128.Idx → α) (o s : ℕ) (w : (Shape.mk 3 ![1, s, 128]).Idx → α) (n : Fin 10000) (j : Fin 128)
    (r : Fin s) (h : n.val = o + r.val) :
    VecWindow.put (s := S1x10000x128) d ![0, o, 0] ![1, s, 128] w (ix3 0 n j) = w (ix3 0 r j) := by
  have hc : ∀ a : Fin 3, (![0, o, 0] : Fin 3 → ℕ) a ≤ ((ix3 0 n j : S1x10000x128.Idx) a).val
      ∧ ((ix3 0 n j : S1x10000x128.Idx) a).val < (![0, o, 0] : Fin 3 → ℕ) a + (![1, s, 128] : Fin 3 → ℕ) a :=
    Fin.forall_fin_succ.mpr ⟨by simp, Fin.forall_fin_two.mpr ⟨by simp; omega, by simp⟩⟩
  unfold VecWindow.put
  rw [dif_pos hc]
  exact congrArg w (funext (Fin.forall_fin_succ.mpr ⟨Fin.ext (by simp), Fin.forall_fin_two.mpr ⟨Fin.ext (by simp; omega), Fin.ext (by simp)⟩⟩))

/-- and at a row outside them. -/
theorem put_miss {α : Type} (d : S1x10000x128.Idx → α) (o s : ℕ) (w : (Shape.mk 3 ![1, s, 128]).Idx → α) (n : Fin 10000) (j : Fin 128)
    (h : n.val < o ∨ o + s ≤ n.val) :
    VecWindow.put (s := S1x10000x128) d ![0, o, 0] ![1, s, 128] w (ix3 0 n j) = d (ix3 0 n j) := by
  unfold VecWindow.put
  rw [dif_neg (fun hc => by have := hc 1; simp at this; omega)]

variable {X : ℕ → Fin 128 → ℝ} {x1 : Vec Ideal S1x10000x128 .f32} {xp : Vec Ideal S10016x128 .bf16}
  {wf : Vec Ideal S128x770 .bf16} {b : Vec Ideal S1x256 .f32} {wo : Vec Ideal S256x128 .bf16} {d : Vec Ideal S1x10000x128 .f32}

/-- The staged rows, read. -/
theorem staged_at (hs : Staged x1 xp) (hx : ∀ (n : Fin 10000) k, x1 (ix3 0 n k) = (X n k : EReal)) (r : Fin 10016) (n : ℕ)
    (hn : n < 10000) (h : r.val = n + 15) (k : Fin 128) : xp (ix2 r k) = (X n k : EReal) := by
  rw [show r = ⟨n + 15, by omega⟩ from Fin.ext h]
  refine (hs ⟨n, hn⟩ k).trans ?_
  pointwise [k0_pay7]
  exact hx ⟨n, hn⟩ k

/-- The block of the result: every row is the layer's output at its node. -/
theorem outBlk_output (hs : Staged x1 xp) (hx : ∀ (n : Fin 10000) k, x1 (ix3 0 n k) = (X n k : EReal)) (hw : FusedIs W wf)
    (hb : BiasIs W b) (ho : OutIs W wo) (n : Fin 10000) (j : Fin 128) :
    outBlk d xp wf b wo (ix3 0 n j) = output W eps (X n) (state W X n) j := by
  have hA : KernelRowsA.HoldsA (runA xp) X := fun r n' hr k => by
    refine Eq.trans ?_ (staged_at hs hx ⟨r.val, by omega⟩ n' (by omega) hr k)
    exact congrArg xp (funext (Fin.forall_fin_two.mpr ⟨Fin.ext (by simp), Fin.ext (by simp)⟩))
  have hB : ∀ (r : Fin 2816) k, runB xp (ix2 r k) = (X (r.val + 4369) k : EReal) := fun r k => by
    refine Eq.trans ?_ (staged_at hs hx ⟨r.val + 4384, by omega⟩ _ (by omega) rfl k)
    exact congrArg xp (funext (Fin.forall_fin_two.mpr ⟨Fin.ext (by simp; omega), Fin.ext (by simp)⟩))
  have hC : ∀ (r : Fin 2816), r.val < 2815 → ∀ k, runC xp (ix2 r k) = (X (r.val + 7185) k : EReal) := fun r h k => by
    refine Eq.trans ?_ (staged_at hs hx ⟨r.val + 7200, by omega⟩ _ (by omega) rfl k)
    exact congrArg xp (funext (Fin.forall_fin_two.mpr ⟨Fin.ext (by simp; omega), Fin.ext (by simp)⟩))
  have h3 := KernelRowsA.level3_state hw hb hA
  unfold outBlk
  by_cases hc : 7185 ≤ n.val
  · refine (put_hit _ 7185 2815 _ n j ⟨n.val - 7185, by omega⟩ (by simp; omega)).trans ?_
    refine (KernelRowsBC.rowsC_output hw hb ho hC h3 _ j).trans ?_
    rw [show n.val - 7185 + 7185 = n.val by omega]
  refine (put_miss _ 7185 2815 _ n j (by omega)).trans ?_
  by_cases hb' : 4369 ≤ n.val
  · refine (put_hit _ 4369 2816 _ n j ⟨n.val - 4369, by omega⟩ (by simp; omega)).trans ?_
    pointwise [k0_pay36]
    refine (KernelRowsBC.rowsB_output hw hb ho hB h3 _ j).trans ?_
    simp only [show n.val - 4369 + 4369 = n.val by omega]
  refine (put_miss _ 4369 2816 _ n j (by omega)).trans ?_
  refine (put_hit _ 0 4369 _ n j ⟨n.val, by omega⟩ (by simp)).trans ?_
  exact KernelRowsA.rowsA_output hw hb ho hA ⟨n.val, by omega⟩ j

end Cert.KernelOut
-- ==== Proof.RefIndex.lean ====
/- The reference's reads and writes of rows by index, at indices that are in range. -/
module

public import proofs.«01_k».proof.Proof.Gen.ReferenceIdeal
public import Idealize.ShloMosaic.PureOps.Ideal
public import Idealize.ShloMosaic.Lib.ReduceAll
public import Idealize.ShloMosaic.Lib.Routing.Words
public import Idealize.ShloMosaic.Lib.Routing.OpsPair
public import Idealize.ShloMosaic.Lib.Routing.OpsSet
public import Idealize.ShloMosaic.Lib.StableHlo.Predicate
public import Idealize.ShloMosaic.Lib.Pointwise

@[expose] public section

set_option maxRecDepth 16384

noncomputable section

namespace Cert.RefIndex

open Idealize.ShloMosaic Cert.ReferenceIdeal Cert.ReferenceIdeal.Gen

/-- A whole stack of channels by rows. -/
abbrev Stack := FVec Ideal S4x256x10000 .f32

/-- A column of indices, a negative one counted from the end. -/
def wrapped (v : IVec S10000 32) : IVec S10000x1 32 :=
  broadcastInDim S10000x1 ![0] bcast_S10000_S10000x1_0
    (select (cmpi .slt v (broadcastInDim S10000 ![] bcast_S_S10000 (constantI S_ 32 0#32)))
      (addi v (broadcastInDim S10000 ![] bcast_S_S10000 (constantI S_ 32 10000#32))) v)

/-- Which of a column's indices are in range. -/
def inside (c : IVec S10000x1 32) : IVec S10000 1 :=
  Host.reduce IntOp.andi
    (andi (cmpi .sge c (broadcastInDim S10000x1 ![] bcast_S_S10000x1 (constantI S_ 32 0#32)))
      (cmpi .sle c (broadcastInDim S10000x1 ![0, 1] bcast_S1x1_S10000x1_0_1
        (broadcastInDim S1x1 ![1] bcast_S1_S1x1_1 (constantI S1 32 9999#32)))))
    (constantI S_ 1 1#1) reducesTo_S10000x1_S10000_d1 h_S_

/-- The rows at a column of indices, a filler where an index is out of range. -/
def take (c : IVec S10000x1 32) (h : Stack) : Stack :=
  select (broadcastInDim S4x256x10000 ![2] bcast_S10000_S4x256x10000_2 (inside c))
    (Host.gather gather_S4x256x10000_S10000x1_S4x256x10000_01_2_n_n_2_1_42561 h c)
    (broadcastInDim S4x256x10000 ![] bcast_S_S4x256x10000 (constant S_ .f32 0x7FC00000#32))

/-- The column holds row `f p` at `p`. -/
def Holds (c : IVec S10000x1 32) (f : Fin 10000 → Fin 10000) : Prop := ∀ p : Fin 10000, c (ix2 p 0) = BitVec.ofNat 32 (f p).val

/-- A word under `2 ^ 31` is not under zero, -/
theorem not_slt_zero {k : ℕ} (hk : k < 2 ^ 31) : IntOp.cmpi .slt (BitVec.ofNat 32 k) 0#32 = 0#1 := by
  show BitVec.ofBool ((BitVec.ofNat 32 k).slt 0#32) = 0#1
  rw [BitVec.slt, StableHlo.Predicate.toInt_ofNat_small k hk]
  simp only [BitVec.toInt_zero]
  rw [decide_eq_false (by omega)]
  rfl

/-- is at least zero, -/
theorem sge_zero {k : ℕ} (hk : k < 2 ^ 31) : IntOp.cmpi .sge (BitVec.ofNat 32 k) 0#32 = 1#1 := by
  show BitVec.ofBool ((0#32).sle (BitVec.ofNat 32 k)) = 1#1
  rw [BitVec.sle, StableHlo.Predicate.toInt_ofNat_small k hk]
  simp

/-- and, under 10000, at most 9999. -/
theorem sle_last {k : ℕ} (hk : k < 10000) : IntOp.cmpi .sle (BitVec.ofNat 32 k) 9999#32 = 1#1 := by
  show BitVec.ofBool ((BitVec.ofNat 32 k).sle (BitVec.ofNat 32 9999)) = 1#1
  rw [BitVec.sle, StableHlo.Predicate.toInt_ofNat_small k (by omega), StableHlo.Predicate.toInt_ofNat_small 9999 (by omega)]
  rw [decide_eq_true (by omega)]
  rfl

/-- A column of indices in range is the indices. -/
theorem wrapped_holds {v : IVec S10000 32} {f : Fin 10000 → Fin 10000} (h : ∀ p, v (ix1 p) = BitVec.ofNat 32 (f p).val) :
    Holds (wrapped v) f := fun p => by
  have hp := (f p).isLt
  unfold wrapped
  pointwise
  rw [h, not_slt_zero (by omega)]
  rfl

theorem inside_one {c : IVec S10000x1 32} {f : Fin 10000 → Fin 10000} (h : Holds c f) (p : Fin 10000) : inside c (ix1 p) = 1#1 := by
  unfold inside
  refine Host.reduce_andi_one _ _ _ _ _ rfl fun i => ?_
  obtain ⟨q, z, rfl⟩ : ∃ (q : Fin 10000) (z : Fin 1), i = ix2 q z := ⟨i 0, i 1, funext fun a => by match a with | ⟨0, _⟩ => rfl | ⟨1, _⟩ => rfl⟩
  obtain rfl : z = 0 := Subsingleton.elim _ _
  have hq := (f q).isLt
  show IntOp.cmpi .sge (c (ix2 q 0)) 0#32 &&& IntOp.cmpi .sle (c (ix2 q 0)) 9999#32 = 1#1
  rw [h q, sge_zero (by omega), sle_last hq]
  rfl

/-- A gather of rows at indices in range. -/
theorem gather_at {c : IVec S10000x1 32} {f : Fin 10000 → Fin 10000} (hc : Holds c f) (h : Stack) (a : Fin 4) (i : Fin 256) (p : Fin 10000) :
    Host.gather gather_S4x256x10000_S10000x1_S4x256x10000_01_2_n_n_2_1_42561 h c (ix3 a i p) = h (ix3 a i (f p)) := by
  unfold Host.gather
  refine congrArg h (funext fun x => Fin.ext ?_)
  match x with
  | ⟨0, _⟩ =>
    show 0 + 0 + a.val = a.val
    omega
  | ⟨1, _⟩ =>
    show 0 + 0 + i.val = i.val
    omega
  | ⟨2, _⟩ =>
    have hs : gather_S4x256x10000_S10000x1_S4x256x10000_01_2_n_n_2_1_42561.siIdx (ix3 a i p) ⟨0, Nat.zero_lt_one⟩ = ix2 p (0 : Fin 1) := by
      funext b
      match b with
      | ⟨0, _⟩ => rfl
      | ⟨1, _⟩ => rfl
    show min (c (gather_S4x256x10000_S10000x1_S4x256x10000_01_2_n_n_2_1_42561.siIdx (ix3 a i p) ⟨0, Nat.zero_lt_one⟩)).toInt.toNat 9999 + 0 + 0 = (f p).val
    have := (f p).isLt
    rw [hs, hc p, StableHlo.Predicate.toInt_ofNat_small _ (by omega), Int.toNat_natCast]
    omega

/-- The rows at a column of indices in range. -/
theorem take_at {c : IVec S10000x1 32} {f : Fin 10000 → Fin 10000} (hc : Holds c f) (h : Stack) (a : Fin 4) (i : Fin 256) (p : Fin 10000) :
    take c h (ix3 a i p) = h (ix3 a i (f p)) := by
  pointwise [take]
  rw [inside_one hc p]
  exact gather_at hc h a i p

/-- Writing every row at its own index writes the rows. -/
theorem scatter_at {c : IVec S10000x1 32} (hc : Holds c id) (x h : Stack) (a : Fin 4) (i : Fin 256) (p : Fin 10000) :
    Host.scatter scatter_S4x256x10000_S10000x1_S4x256x10000_01_2_2_1 (fun _ b => b) x c h (ix3 a i p) = h (ix3 a i p) := by
  have hs : ∀ k : S4x256x10000.Idx,
      scatter_S4x256x10000_S10000x1_S4x256x10000_01_2_2_1.siIdx k ⟨0, Nat.zero_lt_one⟩ = ix2 (k 2) (0 : Fin 1) := fun k => by
    funext b
    match b with
    | ⟨0, _⟩ => rfl
    | ⟨1, _⟩ => rfl
  have h2 : ∀ k : S4x256x10000.Idx, scatter_S4x256x10000_S10000x1_S4x256x10000_01_2_2_1.start k c 2 = ((k 2).val : Int) := fun k => by
    show (c (scatter_S4x256x10000_S10000x1_S4x256x10000_01_2_2_1.siIdx k ⟨0, Nat.zero_lt_one⟩)).toInt = _
    have hk : (k 2).val < 10000 := (k 2).isLt
    exact (congrArg BitVec.toInt ((congrArg c (hs k)).trans (hc (k 2)))).trans
      (StableHlo.Predicate.toInt_ofNat_small _ (by show (k 2).val < _; omega))
  have land : ∀ k ι : S4x256x10000.Idx, scatter_S4x256x10000_S10000x1_S4x256x10000_01_2_2_1.resultIdx? k c = some ι ↔ k = ι := fun k ι => by
    rw [Routing.resultIdx?_eq_some]
    constructor
    · intro e
      funext b
      refine Fin.ext ?_
      match b with
      | ⟨0, _⟩ =>
        have : (0 : Int) + ((k 0).val : Int) = ((ι 0).val : Int) := e 0
        show (k 0).val = (ι 0).val
        omega
      | ⟨1, _⟩ =>
        have : (0 : Int) + ((k 1).val : Int) = ((ι 1).val : Int) := e 1
        show (k 1).val = (ι 1).val
        omega
      | ⟨2, _⟩ =>
        have e2 := e 2
        rw [h2] at e2
        have : ((k 2).val : Int) + ((0 : ℕ) : Int) = ((ι 2).val : Int) := e2
        show (k 2).val = (ι 2).val
        omega
    · rintro rfl b
      match b with
      | ⟨0, _⟩ =>
        show (0 : Int) + ((k 0).val : Int) = ((k 0).val : Int)
        omega
      | ⟨1, _⟩ =>
        show (0 : Int) + ((k 1).val : Int) = ((k 1).val : Int)
        omega
      | ⟨2, _⟩ =>
        refine Eq.trans (congrArg (· + _) (h2 k)) ?_
        show ((k 2).val : Int) + ((0 : ℕ) : Int) = ((k 2).val : Int)
        omega
  exact Routing.scatter_set_hit _ _ _ _ _ _ (fun k hk => by rw [(land k _).1 hk]) _ ((land _ _).2 rfl)

end Cert.RefIndex
-- ==== Proof.Inputs.lean ====
/- What the layer's inputs are, read off their stated precondition. -/
module

public import proofs.«01_k».proof.Defs
public import proofs.«01_k».proof.Proof.Gen.Pre_layer_inputs
public import proofs.«01_k».proof.Proof.Scalars
public import Idealize.ShloMosaic.Lib.ReduceAll
public import Idealize.ShloMosaic.Lib.Routing.Words
public import Idealize.ShloMosaic.Lib.Pointwise

@[expose] public section

set_option maxRecDepth 16384

noncomputable section

namespace Cert.Inputs

open Idealize.ShloMosaic Cert.Pre_layer_inputs

variable {x0 : FVec Ideal S4x10000x128 .f32} {x1 x2 : IVec S10000 32} {x3 : FVec Ideal S128x512 .f32} {x4 : FVec Ideal S256x10 .f32}
  {x5 : FVec Ideal S8x256 .f32} {x6 x7 x8 x9 x10 : FVec Ideal S256 .f32} {x11 : FVec Ideal S256x128 .f32}

/-- Two bits are both one when their conjunction is. -/
theorem andi_one {s : Shape} {x y : IVec s 1} {i : s.Idx} (h : andi x y i = 1#1) : x i = 1#1 ∧ y i = 1#1 :=
  (by decide : ∀ a b : BitVec 1, a &&& b = 1#1 → a = 1#1 ∧ b = 1#1) _ _ h

/-- A truth value written as a bit. -/
theorem ofBool_one {p : Prop} [Decidable p] (h : BitVec.ofBool (decide p) = 1#1) : p := by
  by_contra hp
  rw [decide_eq_false hp] at h
  exact absurd h (by decide)

/-- An element whose size is under infinity is real. -/
theorem real_of {s : Shape} {a : FVec Ideal s .f32} {t : FVec Ideal s .f32} {i : s.Idx} (ht : t i = Ideal.ofBits .f32 0x7F800000#32)
    (h : cmpf .olt (Host.absf a) t i = 1#1) : ∃ r : ℝ, a i = (r : EReal) := by
  have hlt : max (a i) (-(a i)) < t i := ofBool_one h
  rw [ht, show Ideal.ofBits .f32 0x7F800000#32 = ⊤ by simp [Ideal.ofBits, Ideal.ieee]] at hlt
  refine ⟨(a i).toReal, (EReal.coe_toReal (fun e => ?_) (fun e => ?_)).symm⟩
  · rw [e] at hlt; simp at hlt
  · rw [e] at hlt; simp at hlt

/-- An element compared equal is equal. -/
theorem eq_of {s : Shape} {a t : FVec Ideal s .f32} {i : s.Idx} (h : cmpf .oeq a t i = 1#1) : a i = t i := ofBool_one h

/-- A word compared equal is equal. -/
theorem word_eq_of {s : Shape} {a t : IVec s 32} {i : s.Idx} (h : cmpi .eq a t i = 1#1) : a i = t i := by
  have h' : BitVec.ofBool (a i == t i) = 1#1 := h
  by_contra hne
  rw [beq_false_of_ne hne] at h'
  exact absurd h' (by decide)

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee, -EReal.coe_mul]; norm_num

/-- What the precondition says of the twelve arguments. -/
structure Good (x0 : FVec Ideal S4x10000x128 .f32) (x1 x2 : IVec S10000 32) (x3 : FVec Ideal S128x512 .f32) (x4 : FVec Ideal S256x10 .f32)
    (x5 : FVec Ideal S8x256 .f32) (x6 x7 x8 x9 x10 : FVec Ideal S256 .f32) (x11 : FVec Ideal S256x128 .f32) : Prop where
  order : ∀ n : Fin 10000, x1 (ix1 n) = BitVec.ofNat 32 n.val
  root : x2 (ix1 0) = 4294967295#32
  parent : ∀ n : Fin 10000, n.val ≠ 0 → x2 (ix1 n) = BitVec.ofNat 32 ((n.val - 1) / 16)
  logRate : ∀ i, x7 i = ((0 : ℝ) : EReal)
  skip : ∀ i, x8 i = ((1 : ℝ) : EReal)
  scale : ∀ i, x9 i = ((1 : ℝ) : EReal)
  shift : ∀ i, x10 i = ((0 : ℝ) : EReal)
  rows : ∀ i, ∃ r : ℝ, x0 i = (r : EReal)
  win : ∀ i, ∃ r : ℝ, x3 i = (r : EReal)
  wxp : ∀ i, ∃ r : ℝ, x4 i = (r : EReal)
  wdt : ∀ i, ∃ r : ℝ, x5 i = (r : EReal)
  bdt : ∀ i, ∃ r : ℝ, x6 i = (r : EReal)

instance : Subsingleton S_.Idx := ⟨fun a b => funext fun k => k.elim0⟩

/-- The parent the predicate computes. -/
theorem parent_word (k : Fin 9999) :
    fn_floor_divide (F := Ideal) (subi (extractStridedSlice S9999 ![1] (iotaInDim S10000 32 0) Facts.slices_S10000_S9999_1)
      (broadcastInDim S9999 ![] Facts.bcast_S_S9999 (constantI S_ 32 1#32))) (constantI S_ 32 16#32) (ix1 k) = BitVec.ofNat 32 (k.val / 16) := by
  refine Routing.pyDiv_ap (hb := Facts.bcast_S_S9999) _ _ _ (a := k.val) (b := 16) ?_ rfl (by omega) (by omega) (by omega)
  pointwise
  show BitVec.ofNat 32 (1 + k.val) - BitVec.ofNat 32 1 = _
  rw [Routing.ofNat32_sub (by omega), Nat.add_sub_cancel_left]

/-- The precondition gives them. -/
theorem good (h : fn (F := Ideal) x0 x1 x2 x3 x4 x5 x6 x7 x8 x9 x10 x11 = fun _ => 1#1) : Good x0 x1 x2 x3 x4 x5 x6 x7 x8 x9 x10 x11 := by
  have h0 := congrFun h ValueIdx.ix0
  dsimp only [fn, fn_part1, fn_part2, fn_part3] at h0
  obtain ⟨h0, h6⟩ := andi_one h0
  obtain ⟨h0, h5⟩ := andi_one h0
  obtain ⟨h0, h4⟩ := andi_one h0
  obtain ⟨h0, h3⟩ := andi_one h0
  obtain ⟨h0, hx⟩ := andi_one h0
  obtain ⟨hi, hp⟩ := andi_one h0
  obtain ⟨hp, h10⟩ := andi_one hp
  obtain ⟨hp, h9⟩ := andi_one hp
  obtain ⟨h7, h8⟩ := andi_one hp
  obtain ⟨hi, hpar⟩ := andi_one hi
  obtain ⟨hord, hroot⟩ := andi_one hi
  refine ⟨fun n => ?_, ?_, fun n hn => ?_, fun i => ?_, fun i => ?_, fun i => ?_, fun i => ?_, fun i => ?_, fun i => ?_, fun i => ?_,
    fun i => ?_, fun i => ?_⟩
  · exact word_eq_of (Host.reduce_andi_all _ _ _ _ _ hord (ix1 n))
  · have e := word_eq_of hroot
    refine Eq.trans ?_ e
    pointwise
  · have e := word_eq_of (Host.reduce_andi_all _ _ _ _ _ hpar (ix1 (⟨n.val - 1, by omega⟩ : Fin 9999)))
    refine Eq.trans ?_ (e.trans (parent_word _))
    pointwise
    exact congrArg (fun k => x2 (ix1 k)) (Fin.ext (by simp; omega))
  · exact (eq_of (Host.reduce_andi_all _ _ _ _ _ h7 i)).trans ofBits_zero
  · exact (eq_of (Host.reduce_andi_all _ _ _ _ _ h8 i)).trans ofBits_one
  · exact (eq_of (Host.reduce_andi_all _ _ _ _ _ h9 i)).trans ofBits_one
  · exact (eq_of (Host.reduce_andi_all _ _ _ _ _ h10 i)).trans ofBits_zero
  · exact real_of rfl (Host.reduce_andi_all _ _ _ _ _ hx i)
  · exact real_of rfl (Host.reduce_andi_all _ _ _ _ _ h3 i)
  · exact real_of rfl (Host.reduce_andi_all _ _ _ _ _ h4 i)
  · exact real_of rfl (Host.reduce_andi_all _ _ _ _ _ h5 i)
  · exact real_of rfl (Host.reduce_andi_all _ _ _ _ _ h6 i)

end Cert.Inputs
-- ==== Proof.RefSweep.lean ====
/- The reference's sweeps: each takes every row's state from its parent's, so after `t` of them the first `t` levels hold the states. -/
module

public import proofs.«01_k».proof.Proof.RefIndex
public import proofs.«01_k».proof.Proof.Inputs

@[expose] public section

set_option maxRecDepth 16384

noncomputable section

namespace Cert.RefSweep

open Idealize.ShloMosaic Cert.ReferenceIdeal Cert.ReferenceIdeal.Gen Cert.RefIndex Cert.Layer

/-- One sweep: every row's state from the rows at `c` where `m` allows it, nothing elsewhere. -/
def sweep (a b : Stack) (m : IVec S1x1x10000 1) (c : IVec S10000x1 32) (h : Stack) : Stack :=
  addf (mulf a (select (broadcastInDim S4x256x10000 ![0, 1, 2] bcast_S1x1x10000_S4x256x10000_0_1_2 m) (take c h)
    (broadcastInDim S4x256x10000 ![] bcast_S_S4x256x10000 (id (constant S_ .f32 0x00000000#32))))) b

/-- The parent of a row, the root its own. -/
def parentOf (p : Fin 10000) : Fin 10000 := ⟨(p.val - 1) / 16, by omega⟩

/-- The mask is up but at the root. -/
def ButRoot (m : IVec S1x1x10000 1) : Prop :=
  m (ix3 0 0 0) = 0#1 ∧ ∀ p : Fin 10000, p.val ≠ 0 → m (ix3 0 0 p) = 1#1

/-- What a sweep starts from. -/
def start : Stack := broadcastInDim S4x256x10000 ![] bcast_S_S4x256x10000 (constant S_ .f32 0x00000000#32)

variable {W : Weights} {X : Fin 4 → ℕ → Fin 128 → ℝ} {a b h : Stack} {m : IVec S1x1x10000 1} {c : IVec S10000x1 32}

/-- The rows under `t` hold their states. -/
def Upto (W : Weights) (X : Fin 4 → ℕ → Fin 128 → ℝ) (t : ℕ) (h : Stack) : Prop :=
  ∀ (k : Fin 4) (i : Fin 256) (p : Fin 10000), p.val < t → h (ix3 k i p) = ((state W (X k) p.val i : ℝ) : EReal)

/-- A sweep takes the states one level down. -/
theorem sweep_upto {t : ℕ} (ha : ∀ k i (p : Fin 10000), a (ix3 k i p) = ((decay W (X k p.val) i : ℝ) : EReal))
    (hb : ∀ k i (p : Fin 10000), b (ix3 k i p) = ((drive W (X k p.val) i : ℝ) : EReal)) (hm : ButRoot m) (hc : Holds c parentOf)
    (hh : Upto W X t h) : Upto W X (16 * t + 1) (sweep a b m c h) := fun k i p hp => by
  pointwise [sweep]
  by_cases h0 : p.val = 0
  · obtain rfl : p = 0 := Fin.ext h0
    rw [hm.1]
    show a (ix3 k i 0) * Ideal.ofBits .f32 0x00000000#32 + b (ix3 k i 0) = _
    rw [ha, hb, Inputs.ofBits_zero, ← EReal.coe_mul, ← EReal.coe_add]
    simp [state_zero]
  · rw [hm.2 p h0]
    show a (ix3 k i p) * take c h (ix3 k i p) + b (ix3 k i p) = _
    rw [take_at hc, hh k i (parentOf p) (by show (p.val - 1) / 16 < t; omega), ha, hb, state_pos _ _ _ _ h0, ← EReal.coe_mul, ← EReal.coe_add]
    rfl

/-- Six sweeps give every row its state. -/
theorem six_sweeps (ha : ∀ k i (p : Fin 10000), a (ix3 k i p) = ((decay W (X k p.val) i : ℝ) : EReal))
    (hb : ∀ k i (p : Fin 10000), b (ix3 k i p) = ((drive W (X k p.val) i : ℝ) : EReal)) (hm : ButRoot m) (hc : Holds c parentOf)
    (k : Fin 4) (i : Fin 256) (p : Fin 10000) :
    (sweep a b m c)^[6] start (ix3 k i p) = ((state W (X k) p.val i : ℝ) : EReal) := by
  have h0 : Upto W X 0 start := fun _ _ _ h => absurd h (Nat.not_lt_zero _)
  have step : ∀ {t : ℕ} {h : Stack}, Upto W X t h → Upto W X (16 * t + 1) (sweep a b m c h) := sweep_upto ha hb hm hc
  exact step (step (step (step (step (step h0))))) k i p (by have := p.isLt; omega)

end Cert.RefSweep
-- ==== Proof.RefRows.lean ====
/- What the reference's rows hold: each row's inner channels, gate, projected columns, step, decay and drive, and its state. -/
module

public import proofs.«01_k».proof.Proof.Gen.ReferenceIdeal.Run
public import proofs.«01_k».proof.Proof.RefSweep
public import proofs.«01_k».proof.Proof.Forms
public import Idealize.ShloMosaic.Lib.Tactic.CleanTypes

@[expose] public section

set_option maxRecDepth 16384

noncomputable section

namespace Cert.RefRows

open Idealize.ShloMosaic Idealize.SL.Sem Cert.ReferenceIdeal Cert.ReferenceIdeal.Gen Cert.ReferenceIdeal.Value
open Cert.RefIndex Cert.RefSweep Cert.Layer Cert.Scalars Cert.Forms

/-- The arguments, as the layer's weights `W` and rows `X` over the reals. -/
structure Reads (V : Valuation τ sig (Elt Ideal)) (W : Weights) (X : Fin 4 → ℕ → Fin 128 → ℝ) : Prop where
  good : Inputs.Good (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11))
  rows : ∀ (b : Fin 4) (n : Fin 10000) (k : Fin 128), V (Proc.devRef .tc main_arg0) (ix3 b n k) = (X b n.val k : EReal)
  win : ∀ (k : Fin 128) (j : Fin 512), V (Proc.devRef .tc main_arg3) (ix2 k j) = (W.win k j : EReal)
  wxp : ∀ (i : Fin 256) (r : Fin 10), V (Proc.devRef .tc main_arg4) (ix2 i r) = (W.wxp i r : EReal)
  wdt : ∀ (r : Fin 8) (i : Fin 256), V (Proc.devRef .tc main_arg5) (ix2 r i) = (W.wdt r i : EReal)
  bdt : ∀ i : Fin 256, V (Proc.devRef .tc main_arg6) (ix1 i) = (W.bdt i : EReal)
  wout : ∀ (i : Fin 256) (j : Fin 128), V (Proc.devRef .tc main_arg11) (ix2 i j) = W.wout i j

variable {V : Valuation τ sig (Elt Ideal)} {W : Weights} {X : Fin 4 → ℕ → Fin 128 → ℝ}

/-- A row's inner channels, -/
theorem inner_row (R : Reads V W X) (b : Fin 4) (n : Fin 10000) (i : Fin 256) :
    res_main_v1 V (ix3 b n i) = ((inner W (X b n.val) i : ℝ) : EReal) := by
  have e := dot_coe (fun k => X b n.val k) (fun k => W.win k ⟨i.val, by omega⟩) (R.rows b n) fun k => R.win k ⟨i.val, by omega⟩
  refine Eq.trans ?_ e
  unfold res_main_v1 res_main_v0
  clean_types
  pointwise

/-- its gate, -/
theorem gate_row (R : Reads V W X) (b : Fin 4) (n : Fin 10000) (i : Fin 256) :
    res_main_v2 V (ix3 b n i) = ((gate W (X b n.val) i : ℝ) : EReal) := by
  have e := dot_coe (fun k => X b n.val k) (fun k => W.win k ⟨256 + i.val, by omega⟩) (R.rows b n) fun k => R.win k ⟨256 + i.val, by omega⟩
  refine Eq.trans ?_ e
  unfold res_main_v2 res_main_v0
  clean_types
  pointwise

/-- its projected columns, -/
theorem proj_row (R : Reads V W X) (b : Fin 4) (n : Fin 10000) (r : Fin 10) :
    res_main_v4 V (ix3 b n r) = ((proj W (X b n.val) r : ℝ) : EReal) := by
  have e := dot_coe _ (fun i => W.wxp i r) (inner_row R b n) fun i => R.wxp i r
  refine Eq.trans ?_ e
  unfold res_main_v4
  clean_types
  pointwise

/-- and its step. -/
theorem step_row (R : Reads V W X) (b : Fin 4) (n : Fin 10000) (i : Fin 256) :
    res_main_v9 V (ix3 b n i) = ((step W (X b n.val) i : ℝ) : EReal) := by
  have e := dot_coe (fun r : Fin 8 => proj W (X b n.val) ⟨r.val, by omega⟩) (fun r => W.wdt r i)
    (fun r => proj_row R b n ⟨r.val, by omega⟩) fun r => R.wdt r i
  unfold step
  rw [EReal.coe_add, ← e, ← R.bdt]
  unfold res_main_v9
  clean_types
  pointwise

/-- The softplus of a real, in the form that keeps its exponential under one. -/
theorem softplus_ideal (u : ℝ) :
    max ((u : ℝ) : EReal) 0 + Ideal.log1p (Ideal.exp (-(FloatOps.absf ((u : EReal) : Ideal .f32) : Ideal .f32))) = ((softplus u : ℝ) : EReal) := by
  rw [show (FloatOps.absf ((u : EReal) : Ideal .f32) : Ideal .f32) = ((|u| : ℝ) : EReal) from abs_coe u, ← EReal.coe_neg, exp_coe,
    log1p_coe _ (Real.exp_pos _).le, show (0 : EReal) = ((0 : ℝ) : EReal) from rfl, max_coe, ← EReal.coe_add, softplus_form]

/-- A step's softplus. -/
theorem softplus_row (R : Reads V W X) (b : Fin 4) (n : Fin 10000) (i : Fin 256) :
    res_main_v18 V (ix3 b i n) = ((softplus (step W (X b n.val) i) : ℝ) : EReal) := by
  have e := step_row R b n i
  unfold res_main_v18 res_main_call1_v3 res_main_call1_cst
  clean_types
  pointwise
  rw [e, if_neg (not_not.2 rfl)]
  exact softplus_ideal _

/-- The column every row is read at by its place in the order. -/
theorem order_holds (R : Reads V W X) : Holds (wrapped (V (Proc.devRef .tc main_arg1))) id := wrapped_holds R.good.order

/-- A row's decay, -/
theorem decay_row (R : Reads V W X) (b : Fin 4) (i : Fin 256) (n : Fin 10000) :
    res_main_v27 V (ix3 b i n) = ((decay W (X b n.val) i : ℝ) : EReal) := by
  refine (take_at (order_holds R) _ b i n).trans ?_
  have e := softplus_row R b n i
  have e7 := R.good.logRate (ix1 i)
  clean_types
  pointwise
  rw [id, e, e7, exp_coe, ← EReal.coe_neg, ← EReal.coe_mul, exp_coe]
  unfold decay
  simp

/-- and its drive. -/
theorem drive_row (R : Reads V W X) (b : Fin 4) (i : Fin 256) (n : Fin 10000) :
    res_main_v28 V (ix3 b i n) = ((drive W (X b n.val) i : ℝ) : EReal) := by
  refine (take_at (order_holds R) _ b i n).trans ?_
  have e := softplus_row R b n i
  have e8 := proj_row R b n 8
  have ei := inner_row R b n i
  unfold res_main_v17
  clean_types
  pointwise
  rw [id, e, e8, ei, ← EReal.coe_mul, ← EReal.coe_mul]
  rfl

/-- A word that is not under zero is the larger of itself and zero. -/
theorem max_zero {k : ℕ} (hk : k < 2 ^ 31) : IntOp.maxsi (BitVec.ofNat 32 k) 0#32 = BitVec.ofNat 32 k := by
  unfold IntOp.maxsi
  rw [BitVec.slt, StableHlo.Predicate.toInt_ofNat_small k hk]
  simp
  rintro rfl
  rfl

/-- The column every row's parent is read at, -/
theorem parent_holds (R : Reads V W X) : Holds (wrapped (res_main_v30 V)) parentOf := wrapped_holds fun p => by
  by_cases h : p.val = 0
  · obtain rfl : p = 0 := Fin.ext h
    show IntOp.maxsi (V (Proc.devRef .tc main_arg2) (ix1 0)) 0#32 = _
    rw [R.good.root]; rfl
  · show IntOp.maxsi (V (Proc.devRef .tc main_arg2) (ix1 p)) 0#32 = BitVec.ofNat 32 ((p.val - 1) / 16)
    rw [R.good.parent p h]
    exact max_zero (by have := p.isLt; omega)

/-- and the mask that is down at the root alone. -/
theorem mask_root (R : Reads V W X) : ButRoot (res_main_v33 V) := by
  have at_row : ∀ p : Fin 10000, res_main_v33 V (ix3 0 0 p) = IntOp.cmpi .sge (V (Proc.devRef .tc main_arg2) (ix1 p)) 0#32 := fun p => by
    unfold res_main_v33
    clean_types
    pointwise
  refine ⟨?_, fun p h => ?_⟩
  · rw [at_row, R.good.root]; rfl
  · rw [at_row, R.good.parent p h, sge_zero (by have := p.isLt; omega)]

end Cert.RefRows
-- ==== Proof.RefMix.lean ====
/- The reference's rows before the norm. -/
module

public import proofs.«01_k».proof.Proof.RefRows

@[expose] public section

set_option maxRecDepth 16384

noncomputable section

namespace Cert.RefMix

open Idealize.ShloMosaic Idealize.SL.Sem Cert.ReferenceIdeal Cert.ReferenceIdeal.Gen Cert.ReferenceIdeal.Value
open Cert.RefIndex Cert.RefSweep Cert.RefRows Cert.Layer Cert.Scalars Cert.Forms

variable {V : Valuation τ sig (Elt Ideal)} {W : Weights} {X : Fin 4 → ℕ → Fin 128 → ℝ}

/-- A sweep of the reference. -/
abbrev sweepOf (V : Valuation τ sig (Elt Ideal)) : Stack → Stack :=
  sweep (res_main_v27 V) (res_main_v28 V) (res_main_v33 V) (wrapped (res_main_v30 V))

/-- What the sweeps leave, before it is written in order. -/
def swept (V : Valuation τ sig (Elt Ideal)) : Stack :=
  sweepOf V (sweepOf V (sweepOf V (sweepOf V (sweepOf V (sweepOf V start)))))

/-- It is the states. -/
theorem swept_row (R : Reads V W X) (b : Fin 4) (i : Fin 256) (n : Fin 10000) :
    swept V (ix3 b i n) = ((state W (X b) n.val i : ℝ) : EReal) :=
  six_sweeps (decay_row R) (drive_row R) (mask_root R) (parent_holds R) b i n

/-- The rows read by the fifth sweep, as the program has them. -/
theorem read_eq (V : Valuation τ sig (Elt Ideal)) :
    res_main_v51 V = take (wrapped (res_main_v30 V)) (sweepOf V (sweepOf V (sweepOf V (sweepOf V start)))) := by
  unfold res_main_v51 res_main_call4_v5 res_main_call6_v5 res_main_call8_v5 res_main_call10_v5 res_main_call12_v5
  unfold sweepOf sweep take inside start wrapped
  rfl

/-- A row before the norm, from the states written in order. -/
def mixed (V : Valuation τ sig (Elt Ideal)) (h : Stack) : FVec Ideal S4x10000x256 .f32 :=
  transpose S4x10000x256 [0, 2, 1]
    (addf (mulf h
        (broadcastInDim S4x256x10000 ![0, 1, 2] bcast_S4x1x10000_S4x256x10000_0_1_2
          (broadcastInDim S4x1x10000 ![0, 2] bcast_S4x10000_S4x1x10000_0_2
            (shapeCast _ (extractStridedSlice S4x10000x1 ![0, 0, 9] (res_main_v4 V) slices_S4x10000x10_S4x10000x1_0_0_9)
              shapeCasts_S4x10000x1_S4x10000))))
      (mulf (broadcastInDim S4x256x10000 ![0, 1, 2] bcast_S1x256x1_S4x256x10000_0_1_2
        (broadcastInDim S1x256x1 ![1] bcast_S256_S1x256x1_1 (V (Proc.devRef .tc main_arg8)))) (res_main_v17 V)))
    transposes_S4x256x10000_S4x10000x256_0_2_1

/-- The rows before the norm, as the program has them. -/
theorem mix_eq (V : Valuation τ sig (Elt Ideal)) :
    res_main_v74 V = mixed V (Host.scatter scatter_S4x256x10000_S10000x1_S4x256x10000_01_2_2_1 (fun _ b => b) start
      (wrapped (V (Proc.devRef .tc main_arg1))) (swept V)) := by
  unfold res_main_v74
  rw [read_eq]
  unfold res_main_call14_v5 mixed swept sweepOf
  unfold sweep take inside start wrapped
  rfl

/-- A row before the norm. -/
theorem mixed_row (R : Reads V W X) {h : Stack} (b : Fin 4) (n : Fin 10000) (i : Fin 256)
    (hh : h (ix3 b i n) = ((state W (X b) n.val i : ℝ) : EReal)) :
    mixed V h (ix3 b n i) = ((mix W (X b n.val) (state W (X b) n.val) i : ℝ) : EReal) := by
  have e9 := proj_row R b n 9
  have ei := inner_row R b n i
  have e8 := R.good.skip (ix1 i)
  unfold mixed res_main_v17
  clean_types
  pointwise
  rw [hh, e9, e8, ei, ← EReal.coe_mul, ← EReal.coe_mul, ← EReal.coe_add, one_mul]
  rfl
theorem mix_row (R : Reads V W X) (b : Fin 4) (n : Fin 10000) (i : Fin 256) :
    res_main_v74 V (ix3 b n i) = ((mix W (X b n.val) (state W (X b) n.val) i : ℝ) : EReal) := by
  rw [mix_eq]
  exact mixed_row R b n i ((scatter_at (order_holds R) start (swept V) b i n).trans (swept_row R b i n))

/-- Its mean. -/
theorem mean_row (R : Reads V W X) (b : Fin 4) (n : Fin 10000) :
    res_main_v78 V (ix3 b n 0) = ((mean (mix W (X b n.val) (state W (X b) n.val)) : ℝ) : EReal) := by
  have e := mean_coe _ (mix_row R b n)
  unfold res_main_v78
  clean_types
  pointwise
  exact e

/-- A block of rows less a column. -/
theorem less_at (y : FVec Ideal S4x10000x256 .f32) (u : FVec Ideal S4x10000x1 .f32) (b : Fin 4) (n : Fin 10000) (i : Fin 256) :
    (subf y (broadcastInDim S4x10000x256 ![0, 1, 2] bcast_S4x10000x1_S4x10000x256_0_1_2 u) : FVec Ideal S4x10000x256 .f32) (ix3 b n i)
      = (y (ix3 b n i) - u (ix3 b n 0) : EReal) := by
  pointwise

/-- The row less its mean. -/
theorem centred_row (R : Reads V W X) (b : Fin 4) (n : Fin 10000) (i : Fin 256) :
    res_main_v80 V (ix3 b n i) = ((mix W (X b n.val) (state W (X b) n.val) i - mean (mix W (X b n.val) (state W (X b) n.val)) : ℝ) : EReal) := by
  refine (less_at (res_main_v74 V) (res_main_v78 V) b n i).trans ?_
  rw [EReal.coe_sub]
  exact congrArg₂ (fun p q : EReal => p - q) (mix_row R b n i) (mean_row R b n)

/-- The norm's divisor, from the rows less their means. -/
def spread (z : FVec Ideal S4x10000x256 .f32) : FVec Ideal S4x10000x1 .f32 :=
  Host.sqrt (addf (Host.divf (broadcastInDim S4x10000x1 ![0, 1] bcast_S4x10000_S4x10000x1_0_1
      (Host.reduceAdd (mulf z z) (constant S_ .f32 0x00000000#32) reducesTo_S4x10000x256_S4x10000_d2 h_S_))
    (broadcastInDim S4x10000x1 ![] bcast_S_S4x10000x1 (constant S_ .f32 0x43800000#32)))
    (broadcastInDim S4x10000x1 ![] bcast_S_S4x10000x1 (constant S_ .f32 0x3727C5AC#32)))

theorem spread_at (y : Fin 256 → ℝ) (z : FVec Ideal S4x10000x256 .f32) (b : Fin 4) (n : Fin 10000)
    (hz : ∀ i, z (ix3 b n i) = ((y i - mean y : ℝ) : EReal)) :
    spread z (ix3 b n 0) = ((Real.sqrt (var y + eps) : ℝ) : EReal) := by
  pointwise [spread]
  rw [dot_coe _ _ hz hz, ofBits_256, div_coe _ _ (by norm_num), ofBits_eps, ← EReal.coe_add]
  exact sqrt_coe _ (add_pos_of_nonneg_of_pos (var_nonneg y) eps_pos).le

/-- A gate. -/
def gated (z : FVec Ideal S4x10000x256 .f32) : FVec Ideal S4x10000x256 .f32 :=
  mulf z (Host.divf (broadcastInDim S4x10000x256 ![] bcast_S_S4x10000x256 (constant S_ .f32 0x3F800000#32))
    (addf (broadcastInDim S4x10000x256 ![] bcast_S_S4x10000x256 (constant S_ .f32 0x3F800000#32)) (Host.exp (Host.negf z))))

theorem gated_at (u : ℝ) (z : FVec Ideal S4x10000x256 .f32) (b : Fin 4) (n : Fin 10000) (i : Fin 256) (hz : z (ix3 b n i) = (u : EReal)) :
    gated z (ix3 b n i) = ((silu u : ℝ) : EReal) := by
  pointwise [gated]
  rw [hz, ← EReal.coe_neg, exp_coe, recip_form _ (Real.exp_pos _), ← EReal.coe_mul]
  unfold silu
  rw [mul_one_div]

/-- Rows less their means, over a divisor, scaled, shifted and gated. -/
def normed (y : FVec Ideal S4x10000x256 .f32) (u s : FVec Ideal S4x10000x1 .f32) (g h : FVec Ideal S256 .f32)
    (z : FVec Ideal S4x10000x256 .f32) : FVec Ideal S4x10000x256 .f32 :=
  mulf (addf (mulf (Host.divf (subf y (broadcastInDim S4x10000x256 ![0, 1, 2] bcast_S4x10000x1_S4x10000x256_0_1_2 u))
        (broadcastInDim S4x10000x256 ![0, 1, 2] bcast_S4x10000x1_S4x10000x256_0_1_2 s))
      (broadcastInDim S4x10000x256 ![0, 1, 2] bcast_S1x1x256_S4x10000x256_0_1_2 (broadcastInDim S1x1x256 ![2] bcast_S256_S1x1x256_2 g)))
    (broadcastInDim S4x10000x256 ![0, 1, 2] bcast_S1x1x256_S4x10000x256_0_1_2 (broadcastInDim S1x1x256 ![2] bcast_S256_S1x1x256_2 h))) z

theorem normed_at {y z : FVec Ideal S4x10000x256 .f32} {u s : FVec Ideal S4x10000x1 .f32} {g h : FVec Ideal S256 .f32}
    (b : Fin 4) (n : Fin 10000) (i : Fin 256) (y' u' s' z' : ℝ) (hy : y (ix3 b n i) = (y' : EReal)) (hu : u (ix3 b n 0) = (u' : EReal))
    (hs : s (ix3 b n 0) = (s' : EReal)) (h0 : s' ≠ 0) (hg : g (ix1 i) = ((1 : ℝ) : EReal)) (hh : h (ix1 i) = ((0 : ℝ) : EReal))
    (hz : z (ix3 b n i) = (z' : EReal)) : normed y u s g h z (ix3 b n i) = (((y' - u') / s' * z' : ℝ) : EReal) := by
  pointwise [normed]
  rw [hy, hu, hs, hz, hg, hh, ← EReal.coe_sub, div_coe _ _ h0, ← EReal.coe_mul, ← EReal.coe_add, ← EReal.coe_mul, mul_one, add_zero]

/-- The rows before they are projected out. -/
abbrev normedOf (V : Valuation τ sig (Elt Ideal)) : FVec Ideal S4x10000x256 .f32 :=
  normed (res_main_v74 V) (res_main_v78 V) (spread (res_main_v80 V)) (V (Proc.devRef .tc main_arg9)) (V (Proc.devRef .tc main_arg10))
    (gated (res_main_v2 V))

theorem normed_row (R : Reads V W X) (b : Fin 4) (n : Fin 10000) (i : Fin 256) :
    normedOf V (ix3 b n i) = (((mix W (X b n.val) (state W (X b) n.val) i - mean (mix W (X b n.val) (state W (X b) n.val)))
      / Real.sqrt (var (mix W (X b n.val) (state W (X b) n.val)) + eps) * silu (gate W (X b n.val) i) : ℝ) : EReal) :=
  normed_at b n i _ _ _ _ (mix_row R b n i) (mean_row R b n) (spread_at _ _ b n (centred_row R b n))
    (Real.sqrt_pos.2 (add_pos_of_nonneg_of_pos (var_nonneg _) eps_pos)).ne' (R.good.scale (ix1 i)) (R.good.shift (ix1 i))
    (gated_at _ _ b n i (gate_row R b n i))

/-- Rows projected out. -/
def projected (y : FVec Ideal S4x10000x256 .f32) (w : FVec Ideal S256x128 .f32) : FVec Ideal S4x10000x128 .f32 :=
  Host.dotGeneral dot_S4x10000x256_S256x128_S4x10000x128_2_0_01_1_n_n none y w

theorem projected_at (y : FVec Ideal S4x10000x256 .f32) (w : FVec Ideal S256x128 .f32) (b : Fin 4) (n : Fin 10000) (j : Fin 128) :
    projected y w (ix3 b n j) = ∑ i, (y (ix3 b n i) : EReal) * w (ix2 i j) := by
  pointwise [projected]

/-- The result. -/
abbrev result (V : Valuation τ sig (Elt Ideal)) : FVec Ideal S4x10000x128 .f32 := projected (normedOf V) (V (Proc.devRef .tc main_arg11))

/-- It is the layer's output at every row. -/
theorem result_row (R : Reads V W X) (b : Fin 4) (n : Fin 10000) (j : Fin 128) :
    result V (ix3 b n j) = output W eps (X b n.val) (state W (X b) n.val) j :=
  (projected_at _ _ b n j).trans (Finset.sum_congr rfl fun i _ => congrArg₂ (· * ·) (normed_row R b n i) (R.wout i j))

/-- Every run of the reference ends with that result, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have h := Value.run (F := Ideal) m ρ
  unfold result projected normedOf normed gated spread
  exact h

end Cert.RefMix
-- ==== Proof.Equal.lean ====
/- The kernel's result is the reference's, wherever the precondition holds: both are the layer's output at every row. -/
module

public import proofs.«01_k».proof.Proof.KernelIdealRun
public import proofs.«01_k».proof.Proof.KernelOut
public import proofs.«01_k».proof.Proof.RefMix

@[expose] public section

set_option maxRecDepth 16384

noncomputable section

namespace Cert.Equal

open Idealize.ShloMosaic Idealize.SL.Sem Cert.Layer Cert.Scalars Cert.Forms

section Arrays

open Cert.ReferenceIdeal

variable {x0 : FVec Ideal S4x10000x128 .f32} {x1 x2 : IVec S10000 32} {x3 : FVec Ideal S128x512 .f32} {x4 : FVec Ideal S256x10 .f32}
  {x5 : FVec Ideal S8x256 .f32} {x6 x7 x8 x9 x10 : FVec Ideal S256 .f32} {x11 : FVec Ideal S256x128 .f32}

/-- The weights the arrays hold, -/
def weights (x3 : FVec Ideal S128x512 .f32) (x4 : FVec Ideal S256x10 .f32) (x5 : FVec Ideal S8x256 .f32) (x6 : FVec Ideal S256 .f32)
    (x11 : FVec Ideal S256x128 .f32) : Weights where
  win k j := EReal.toReal (x3 (ix2 k j))
  wxp i r := EReal.toReal (x4 (ix2 i r))
  wdt r i := EReal.toReal (x5 (ix2 r i))
  bdt i := EReal.toReal (x6 (ix1 i))
  wout i j := x11 (ix2 i j)

/-- and the rows; past the last there are none. -/
def rows (x0 : FVec Ideal S4x10000x128 .f32) (b : Fin 4) (n : ℕ) (k : Fin 128) : ℝ :=
  if h : n < 10000 then EReal.toReal (x0 (ix3 b ⟨n, h⟩ k)) else 0

/-- A real extended is the extension of its real. -/
theorem real_eq {a : EReal} (h : ∃ r : ℝ, a = (r : EReal)) : a = ((EReal.toReal a : ℝ) : EReal) := by
  obtain ⟨r, rfl⟩ := h
  rw [EReal.toReal_coe]

theorem rows_eq (h : ∀ i, ∃ r : ℝ, x0 i = (r : EReal)) (b : Fin 4) (n : Fin 10000) (k : Fin 128) :
    x0 (ix3 b n k) = ((rows x0 b n.val k : ℝ) : EReal) := by
  unfold rows
  rw [dif_pos n.isLt]
  exact real_eq (h _)

/-- The arguments of the reference, read as those weights and rows. -/
theorem reads {V : Valuation τ sig (Elt Ideal)} (h0 : V (Proc.devRef .tc main_arg0) = x0) (h1 : V (Proc.devRef .tc main_arg1) = x1)
    (h2 : V (Proc.devRef .tc main_arg2) = x2) (h3 : V (Proc.devRef .tc main_arg3) = x3) (h4 : V (Proc.devRef .tc main_arg4) = x4)
    (h5 : V (Proc.devRef .tc main_arg5) = x5) (h6 : V (Proc.devRef .tc main_arg6) = x6) (h7 : V (Proc.devRef .tc main_arg7) = x7)
    (h8 : V (Proc.devRef .tc main_arg8) = x8) (h9 : V (Proc.devRef .tc main_arg9) = x9) (h10 : V (Proc.devRef .tc main_arg10) = x10)
    (h11 : V (Proc.devRef .tc main_arg11) = x11) (G : Inputs.Good x0 x1 x2 x3 x4 x5 x6 x7 x8 x9 x10 x11) :
    RefRows.Reads V (weights x3 x4 x5 x6 x11) (rows x0) := by
  subst h0 h1 h2 h3 h4 h5 h6 h7 h8 h9 h10 h11
  exact ⟨G, rows_eq G.rows, fun k j => real_eq (G.win _), fun i r => real_eq (G.wxp _), fun r i => real_eq (G.wdt _),
    fun i => real_eq (G.bdt _), fun i j => rfl⟩

/-- The layer's output over the arrays. -/
def layer (x0 : FVec Ideal S4x10000x128 .f32) (x3 : FVec Ideal S128x512 .f32) (x4 : FVec Ideal S256x10 .f32) (x5 : FVec Ideal S8x256 .f32)
    (x6 : FVec Ideal S256 .f32) (x11 : FVec Ideal S256x128 .f32) (b : Fin 4) (n : Fin 10000) (j : Fin 128) : EReal :=
  output (weights x3 x4 x5 x6 x11) eps (rows x0 b n.val) (state (weights x3 x4 x5 x6 x11) (rows x0 b) n.val) j

/-- An index of the result by its coordinates. -/
theorem idx_eq (i : S4x10000x128.Idx) : i = ix3 (i 0) (i 1) (i 2) :=
  funext fun a => match a with
    | ⟨0, _⟩ => rfl
    | ⟨1, _⟩ => rfl
    | ⟨2, _⟩ => rfl

end Arrays

section Kernel

open Cert.KernelIdeal

/-- What a point may leave in its block is the layer's output. -/
theorem left_eq {m : (ℓ : Loc nD τ sig) → Buf (Elt Ideal) ℓ} {c : Dev nD} {x1 x2 : IVec S10000 32} {x7 x8 x9 x10 : FVec Ideal S256 .f32}
    (G : Inputs.Good (m ((c.tc : Thread nD τ).loc main_arg0)) x1 x2 (m ((c.tc : Thread nD τ).loc main_arg3))
      (m ((c.tc : Thread nD τ).loc main_arg4)) (m ((c.tc : Thread nD τ).loc main_arg5)) (m ((c.tc : Thread nD τ).loc main_arg6)) x7 x8 x9 x10
      (m ((c.tc : Thread nD τ).loc main_arg11)))
    (t : Fin 4) {B : Vec Ideal S1x10000x128 .f32} (h : KernelIdealRun.Left m c t B) (n : Fin 10000) (j : Fin 128) :
    B (ix3 0 n j) = layer (m ((c.tc : Thread nD τ).loc main_arg0)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg11)) t n j := by
  obtain ⟨xp, d, hs, rfl⟩ := h
  exact KernelOut.outBlk_output hs (fun n k => (KernelIdealRun.iblk_0 m c t n k).trans (rows_eq G.rows t n k))
    (KernelOut.fusedW_is (fun k j => real_eq (G.win _)) (fun i r => real_eq (G.wxp _)) fun r i => real_eq (G.wdt _))
    (fun i => (KernelIdealRun.iblk_4 m c t i).trans (real_eq (G.bdt _))) (KernelOut.out_is fun i j => rfl) n j

end Kernel

/-- The kernel's result is the reference's. -/
theorem algebraic : algebraic_KernelIdeal_ReferenceIdeal_pre_layer_inputs := fun m g m' g' hpre hsame => by
  have G := fun c => Inputs.good (hpre c)
  refine ⟨fun c i => layer (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg11)) (i 0) (i 1) (i 2), ?_, ?_⟩
  · refine (θ_run Cert.KernelIdeal.defs _ _).mono (fun r h c => ⟨funext fun i => ?_, (h c).2⟩) (KernelIdealRun.run m g)
    obtain ⟨B, hB, e⟩ := (h c).1 i
    exact e.trans (left_eq (G c) (i 0) hB (i 1) (i 2))
  · refine (θ_run Cert.ReferenceIdeal.defs _ _).mono (fun r h c => ⟨funext fun i => ?_, (h c).2⟩) (RefMix.run m' g')
    obtain ⟨h0, h1, h2, h3, h4, h5, h6, h7, h8, h9, h10, h11⟩ := hsame c
    have R := reads (V := StableHlo.launchContents m' c) h0 h1 h2 h3 h4 h5 h6 h7 h8 h9 h10 h11 (G c)
    refine (congrFun (h c).1 i).trans ?_
    exact (congrArg (RefMix.result (StableHlo.launchContents m' c)) (idx_eq i)).trans (RefMix.result_row R (i 0) (i 1) (i 2))

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Equal
public import proofs.«01_k».proof.Proof.Gen.Pre_layer_inputs
public import Idealize.ShloMosaic.Adequacy
public import Idealize.ShloMosaic.Init

@[expose] public section

noncomputable section

namespace Cert.Proof

open Idealize.ShloMosaic Idealize.SL.Sem Cert.Kernel

/-- The idealized kernel differs from the compiled one only in its named constants, each the value its bit pattern
    rounds. -/
theorem preserves : preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl,
    IdealRules.named_const.statement Cert.KernelIdeal.κ "neg_ln2" .f32 0xBF317218#32 _ rfl⟩

/-- The frame of the reference: it is a run of host operations. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_layer_inputs.Gen.facts,
  fun m ρ _ => Cert.KernelFrame.frame m ρ, fun m ρ _ => Cert.KernelIdealFrame.frame m ρ,
  fun m ρ _ => Cert.KernelIdealFrame.frame m ρ, frame_reference, fun m ρ _ => frame_reference m ρ trivial, preserves, Cert.Equal.algebraic⟩

end Cert.Proof

end
